-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))).1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))).1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))).2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_v232) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v24)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v77) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v24)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v72) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
-- ==== Pre_finite.lean ====
abbrev S16x256x7680 : Shape := ⟨3, ![16, 256, 7680]⟩
abbrev S16 : Shape := ⟨1, ![16]⟩
abbrev S_ : Shape := ⟨0, ![]⟩

class Facts : Prop where
  bcast_S_S16x256x7680 : S_.BroadcastsInDim S16x256x7680 (![] : Fin 0 → Fin S16x256x7680.rank)
  bcast_S_S16 : S_.BroadcastsInDim S16 (![] : Fin 0 → Fin S16.rank)

variable [Facts]

def fn {F : FTy → Type} [FloatOps F] (main_arg0 : FVec F S16x256x7680 .f32) (main_arg1 : FVec F S16 .f32) : IVec S16x256x7680 1 × IVec S16 1 :=
  let main_v0 : FVec F S16x256x7680 .f32 := Host.absf main_arg0
  let main_cst : FVec F S_ .f32 := constant S_ .f32 0x7F800000#32
  let main_v1 : FVec F S16x256x7680 .f32 := broadcastInDim S16x256x7680 ![] bcast_S_S16x256x7680 main_cst
  let main_v2 : IVec S16x256x7680 1 := cmpf .olt main_v0 main_v1
  let main_v3 : FVec F S16 .f32 := Host.absf main_arg1
  let main_cst_0 : FVec F S_ .f32 := constant S_ .f32 0x7F800000#32
  let main_v4 : FVec F S16 .f32 := broadcastInDim S16 ![] bcast_S_S16 main_cst_0
  let main_v5 : IVec S16 1 := cmpf .olt main_v3 main_v4
  (main_v2, main_v5)
-- ==== Kernel.lean ====
abbrev S16x256x7680 : Shape := ⟨3, ![16, 256, 7680]⟩
abbrev S2x4 : Shape := ⟨2, ![2, 4]⟩
abbrev S2x4x1x1 : Shape := ⟨4, ![2, 4, 1, 1]⟩
abbrev S2x4x1x256 : Shape := ⟨4, ![2, 4, 1, 256]⟩
abbrev S16x256x1024 : Shape := ⟨3, ![16, 256, 1024]⟩
abbrev S16x2x4x128x256 : Shape := ⟨5, ![16, 2, 4, 128, 256]⟩
abbrev S1x256x512 : Shape := ⟨3, ![1, 256, 512]⟩
abbrev S1x256x1024 : Shape := ⟨3, ![1, 256, 1024]⟩
abbrev S1x2x4x128x256 : Shape := ⟨5, ![1, 2, 4, 128, 256]⟩
abbrev S4x256x128 : Shape := ⟨3, ![4, 256, 128]⟩
abbrev S4x2x256x256 : Shape := ⟨4, ![4, 2, 256, 256]⟩
abbrev S4x128x256 : Shape := ⟨3, ![4, 128, 256]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩
abbrev S1x1x1x256 : Shape := ⟨4, ![1, 1, 1, 256]⟩
abbrev S1x256 : Shape := ⟨2, ![1, 256]⟩
abbrev S1x128 : Shape := ⟨2, ![1, 128]⟩
abbrev S1x1x128x256 : Shape := ⟨4, ![1, 1, 128, 256]⟩
abbrev S1x128x128 : Shape := ⟨3, ![1, 128, 128]⟩
abbrev S1x1x256x256 : Shape := ⟨4, ![1, 1, 256, 256]⟩
abbrev S256x256 : Shape := ⟨2, ![256, 256]⟩
abbrev S128 : Shape := ⟨1, ![128]⟩
abbrev S128x1 : Shape := ⟨2, ![128, 1]⟩
abbrev S1x1x1x128x256 : Shape := ⟨5, ![1, 1, 1, 128, 256]⟩

abbrev nBuf : Space → Nat
  | .hbm => 6
  | .vmem => 18
  | .smem => 0
  | _ => 0

abbrev bufTy : (tb : Table) → Fin (tcTables nBuf tb) → BufTy
  | .hbm, ⟨0, _⟩ => ⟨S16x256x7680, .f32⟩
  | .hbm, ⟨1, _⟩ => ⟨S2x4, .f32⟩
  | .hbm, ⟨2, _⟩ => ⟨S2x4x1x1, .f32⟩
  | .hbm, ⟨3, _⟩ => ⟨S2x4x1x256, .f32⟩
  | .hbm, ⟨4, _⟩ => ⟨S16x256x1024, .f32⟩
  | .hbm, ⟨5, _⟩ => ⟨S16x2x4x128x256, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S2x4x1x256, .f32⟩
  | .local _ .vmem, ⟨9, _⟩ => ⟨S1x256x1024, .f32⟩
  | .local _ .vmem, ⟨10, _⟩ => ⟨S1x256x1024, .f32⟩
  | .local _ .vmem, ⟨11, _⟩ => ⟨S1x2x4x128x256, .f32⟩
  | .local _ .vmem, ⟨12, _⟩ => ⟨S1x2x4x128x256, .f32⟩
  | .local _ .vmem, ⟨13, _⟩ => ⟨S4x256x128, .f32⟩
  | .local _ .vmem, ⟨14, _⟩ => ⟨S4x256x128, .f32⟩
  | .local _ .vmem, ⟨15, _⟩ => ⟨S4x2x256x256, .bf16⟩
  | .local _ .vmem, ⟨16, _⟩ => ⟨S4x128x256, .f32⟩
  | .local _ .vmem, ⟨17, _⟩ => ⟨S4x128x256, .f32⟩
  | _, _ => ⟨S16x256x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 1], ![false, false]⟩

def k0_mult1 : BitVec 32 :=
  let c0_i32 : BitVec 32 := 0#32
  c0_i32
def k0_mult2 : BitVec 32 :=
  let c128_i32 : BitVec 32 := 128#32
  c128_i32
def k0_mult3 : BitVec 32 :=
  let c0_i32_218 : BitVec 32 := 0#32
  c0_i32_218
def k0_mult4 : BitVec 32 :=
  let c128_i32_219 : BitVec 32 := 128#32
  c128_i32_219
def k0_mult5 : BitVec 32 :=
  let c0_i32_250 : BitVec 32 := 0#32
  c0_i32_250
def k0_mult6 : BitVec 32 :=
  let c128_i32_251 : BitVec 32 := 128#32
  c128_i32_251
def k0_mult7 : BitVec 32 :=
  let c0_i32_281 : BitVec 32 := 0#32
  c0_i32_281
def k0_mult8 : BitVec 32 :=
  let c128_i32_282 : BitVec 32 := 128#32
  c128_i32_282
def k0_mult9 : BitVec 32 :=
  let c128_i32_312 : BitVec 32 := 128#32
  c128_i32_312
def k0_mult10 : BitVec 32 :=
  let c0_i32_313 : BitVec 32 := 0#32
  c0_i32_313
def k0_mult11 : BitVec 32 :=
  let c128_i32_344 : BitVec 32 := 128#32
  c128_i32_344
def k0_mult12 : BitVec 32 :=
  let c0_i32_345 : BitVec 32 := 0#32
  c0_i32_345
def k0_mult13 : BitVec 32 :=
  let c128_i32_376 : BitVec 32 := 128#32
  c128_i32_376
def k0_mult14 : BitVec 32 :=
  let c0_i32_377 : BitVec 32 := 0#32
  c0_i32_377
def k0_mult15 : BitVec 32 :=
  let c128_i32_408 : BitVec 32 := 128#32
  c128_i32_408
def k0_mult16 : BitVec 32 :=
  let c0_i32_409 : BitVec 32 := 0#32
  c0_i32_409
def k0_mult17 : BitVec 32 :=
  let c0_i32_440 : BitVec 32 := 0#32
  c0_i32_440
def k0_mult18 : BitVec 32 :=
  let c0_i32_466 : BitVec 32 := 0#32
  c0_i32_466
def k0_mult19 : BitVec 32 :=
  let c0_i32_492 : BitVec 32 := 0#32
  c0_i32_492
def k0_mult20 : BitVec 32 :=
  let c0_i32_518 : BitVec 32 := 0#32
  c0_i32_518
def k0_mult21 : BitVec 32 :=
  let c128_i32_544 : BitVec 32 := 128#32
  c128_i32_544
def k0_mult22 : BitVec 32 :=
  let c128_i32_570 : BitVec 32 := 128#32
  c128_i32_570
def k0_mult23 : BitVec 32 :=
  let c128_i32_596 : BitVec 32 := 128#32
  c128_i32_596
def k0_mult24 : BitVec 32 :=
  let c128_i32_622 : BitVec 32 := 128#32
  c128_i32_622
def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let c0_i32_0 : BitVec 32 := 0#32
  ![arg0.toNat, c0_i32.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x4x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16x256x7680 : Shape := ⟨3, ![16, 256, 7680]⟩
abbrev S2x4 : Shape := ⟨2, ![2, 4]⟩
abbrev S16x256x512 : Shape := ⟨3, ![16, 256, 512]⟩
abbrev S16x256x4x128 : Shape := ⟨4, ![16, 256, 4, 128]⟩
abbrev S_ : Shape := ⟨0, ![]⟩
abbrev S16x256x1024 : Shape := ⟨3, ![16, 256, 1024]⟩
abbrev S16x256x4x256 : Shape := ⟨4, ![16, 256, 4, 256]⟩
abbrev S1x4 : Shape := ⟨2, ![1, 4]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S16x4x128x256 : Shape := ⟨4, ![16, 4, 128, 256]⟩
abbrev S16x128x4x128 : Shape := ⟨4, ![16, 128, 4, 128]⟩
abbrev S16x4x128x128 : Shape := ⟨4, ![16, 4, 128, 128]⟩
abbrev S16x128x4x256 : Shape := ⟨4, ![16, 128, 4, 256]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S16x256x4 : Shape := ⟨3, ![16, 256, 4]⟩
abbrev S16x256x4x1 : Shape := ⟨4, ![16, 256, 4, 1]⟩
abbrev S16x1x4x128x256 : Shape := ⟨5, ![16, 1, 4, 128, 256]⟩
abbrev S16x2x4x128x256 : Shape := ⟨5, ![16, 2, 4, 128, 256]⟩

abbrev nBuf : Space → Nat
  | .hbm => 276
  | .vmem => 0
  | .smem => 0
  | _ => 0

abbrev hbmTy0_0 (i : Nat) : BufTy := match i % 128 with
  | 0 => ⟨S16x256x7680, .f32⟩
  | 1 => ⟨S2x4, .f32⟩
  | 2 => ⟨S16x256x512, .f32⟩
  | 3 => ⟨S16x256x4x128, .f32⟩
  | 4 => ⟨S_, .f32⟩
  | 5 => ⟨S16x256x4x128, .f32⟩
  | 6 => ⟨S16x256x4x128, .f32⟩
  | 7 => ⟨S16x256x512, .f32⟩
  | 8 => ⟨S16x256x4x128, .f32⟩
  | 9 => ⟨S16x256x1024, .f32⟩
  | 10 => ⟨S16x256x4x256, .f32⟩
  | 11 => ⟨S16x256x1024, .f32⟩
  | 12 => ⟨S2x4, .f32⟩
  | 13 => ⟨S_, .f32⟩
  | 14 => ⟨S2x4, .f32⟩
  | 15 => ⟨S2x4, .f32⟩
  | 16 => ⟨S2x4, .f32⟩
  | 17 => ⟨S2x4, .f32⟩
  | 18 => ⟨S2x4, .i1⟩
  | 19 => ⟨S2x4, .f32⟩
  | 20 => ⟨S2x4, .f32⟩
  | 21 => ⟨S2x4, .f32⟩
  | 22 => ⟨S2x4, .f32⟩
  | 23 => ⟨S2x4, .f32⟩
  | 24 => ⟨S2x4, .f32⟩
  | 25 => ⟨S2x4, .f32⟩
  | 26 => ⟨S2x4, .f32⟩
  | 27 => ⟨S2x4, .f32⟩
  | 28 => ⟨S1x4, .f32⟩
  | 29 => ⟨S4, .f32⟩
  | 30 => ⟨S128, .i32⟩
  | 31 => ⟨S128, .f32⟩
  | 32 => ⟨S128x1, .f32⟩
  | 33 => ⟨S1x128, .f32⟩
  | 34 => ⟨S128x128, .f32⟩
  | 35 => ⟨S128x128, .f32⟩
  | 36 => ⟨S128x128, .f32⟩
  | 37 => ⟨S_, .f32⟩
  | 38 => ⟨S128x128, .f32⟩
  | 39 => ⟨S128x128, .i1⟩
  | 40 => ⟨S4x1x1, .f32⟩
  | 41 => ⟨S_, .f32⟩
  | 42 => ⟨S128x128, .f32⟩
  | 43 => ⟨S128x128, .f32⟩
  | 44 => ⟨S1x128x128, .f32⟩
  | 45 => ⟨S4x128x128, .f32⟩
  | 46 => ⟨S4x128x128, .f32⟩
  | 47 => ⟨S4x128x128, .f32⟩
  | 48 => ⟨S4x128x128, .f32⟩
  | 49 => ⟨S_, .f32⟩
  | 50 => ⟨S_, .f32⟩
  | 51 => ⟨S4x128x128, .i1⟩
  | 52 => ⟨S4x128x128, .f32⟩
  | 53 => ⟨S4x128x128, .f32⟩
  | 54 => ⟨S4x1, .f32⟩
  | 55 => ⟨S_, .f32⟩
  | 56 => ⟨S128, .f32⟩
  | 57 => ⟨S128, .f32⟩
  | 58 => ⟨S1x128, .f32⟩
  | 59 => ⟨S4x128, .f32⟩
  | 60 => ⟨S4x128, .f32⟩
  | 61 => ⟨S4x128, .f32⟩
  | 62 => ⟨S4x128, .f32⟩
  | 63 => ⟨S4x128x1, .f32⟩
  | 64 => ⟨S4x1, .f32⟩
  | 65 => ⟨S_, .f32⟩
  | 66 => ⟨S128, .f32⟩
  | 67 => ⟨S128, .f32⟩
  | 68 => ⟨S1x128, .f32⟩
  | 69 => ⟨S4x128, .f32⟩
  | 70 => ⟨S4x128, .f32⟩
  | 71 => ⟨S4x128, .f32⟩
  | 72 => ⟨S4x128, .f32⟩
  | 73 => ⟨S4x128x1, .f32⟩
  | 74 => ⟨S_, .f32⟩
  | 75 => ⟨S4, .f32⟩
  | 76 => ⟨S4, .f32⟩
  | 77 => ⟨S4, .f32⟩
  | 78 => ⟨S4x1x1, .f32⟩
  | 79 => ⟨S_, .f32⟩
  | 80 => ⟨S16x4x128x256, .f32⟩
  | 81 => ⟨S16x128x4x128, .f32⟩
  | 82 => ⟨S16x4x128x128, .f32⟩
  | 83 => ⟨S16x128x4x128, .f32⟩
  | 84 => ⟨S16x4x128x128, .f32⟩
  | 85 => ⟨S16x128x4x256, .f32⟩
  | 86 => ⟨S16x4x128x256, .f32⟩
  | 87 => ⟨S16x4x128x128, .f32⟩
  | 88 => ⟨S1x4x128x128, .f32⟩
  | 89 => ⟨S16x4x128x128, .f32⟩
  | 90 => ⟨S16x4x128x128, .f32⟩
  | 91 => ⟨S16x4x128x256, .f32⟩
  | 92 => ⟨S1x4x128x1, .f32⟩
  | 93 => ⟨S16x4x128x128, .f32⟩
  | 94 => ⟨S16x4x128x128, .f32⟩
  | 95 => ⟨S16x4x128x256, .f32⟩
  | 96 => ⟨S16x4x128x256, .f32⟩
  | 97 => ⟨S1x4x1x1, .f32⟩
  | 98 => ⟨S16x4x128x256, .f32⟩
  | 99 => ⟨S16x4x128x256, .f32⟩
  | 100 => ⟨S1x4x128x1, .f32⟩
  | 101 => ⟨S16x4x128x128, .f32⟩
  | 102 => ⟨S16x4x128x128, .f32⟩
  | 103 => ⟨S16x4x128x256, .f32⟩
  | 104 => ⟨S16x4x128x256, .f32⟩
  | 105 => ⟨S16x128x4x256, .f32⟩
  | 106 => ⟨S16x128x4x128, .f32⟩
  | 107 => ⟨S16x4x128x128, .f32⟩
  | 108 => ⟨S16x128x4x128, .f32⟩
  | 109 => ⟨S16x4x128x128, .f32⟩
  | 110 => ⟨S16x128x4x256, .f32⟩
  | 111 => ⟨S16x4x128x256, .f32⟩
  | 112 => ⟨S16x4x128x128, .f32⟩
  | 113 => ⟨S1x4x128x128, .f32⟩
  | 114 => ⟨S16x4x128x128, .f32⟩
  | 115 => ⟨S16x4x128x128, .f32⟩
  | 116 => ⟨S16x4x128x256, .f32⟩
  | 117 => ⟨S1x4x128x1, .f32⟩
  | 118 => ⟨S16x4x128x128, .f32⟩
  | 119 => ⟨S16x4x128x128, .f32⟩
  | 120 => ⟨S16x4x128x256, .f32⟩
  | 121 => ⟨S16x4x128x256, .f32⟩
  | 122 => ⟨S1x4x1x1, .f32⟩
  | 123 => ⟨S16x4x128x256, .f32⟩
  | 124 => ⟨S16x4x128x256, .f32⟩
  | 125 => ⟨S1x4x128x1, .f32⟩
  | 126 => ⟨S16x4x128x128, .f32⟩
  | 127 => ⟨S16x4x128x128, .f32⟩
  | _ => ⟨S16x256x7680, .f32⟩

abbrev hbmTy0_1 (i : Nat) : BufTy := match i % 128 with
  | 0 => ⟨S16x4x128x256, .f32⟩
  | 1 => ⟨S16x4x128x256, .f32⟩
  | 2 => ⟨S16x128x4x256, .f32⟩
  | 3 => ⟨S16x256x4x256, .f32⟩
  | 4 => ⟨S16x256x4x128, .f32⟩
  | 5 => ⟨S16x256x4x128, .f32⟩
  | 6 => ⟨S16x256x4x256, .f32⟩
  | 7 => ⟨S1x4, .f32⟩
  | 8 => ⟨S4, .f32⟩
  | 9 => ⟨S128, .i32⟩
  | 10 => ⟨S128, .f32⟩
  | 11 => ⟨S128x1, .f32⟩
  | 12 => ⟨S1x128, .f32⟩
  | 13 => ⟨S128x128, .f32⟩
  | 14 => ⟨S128x128, .f32⟩
  | 15 => ⟨S128x128, .f32⟩
  | 16 => ⟨S_, .f32⟩
  | 17 => ⟨S128x128, .f32⟩
  | 18 => ⟨S128x128, .i1⟩
  | 19 => ⟨S4x1x1, .f32⟩
  | 20 => ⟨S_, .f32⟩
  | 21 => ⟨S128x128, .f32⟩
  | 22 => ⟨S128x128, .f32⟩
  | 23 => ⟨S1x128x128, .f32⟩
  | 24 => ⟨S4x128x128, .f32⟩
  | 25 => ⟨S4x128x128, .f32⟩
  | 26 => ⟨S4x128x128, .f32⟩
  | 27 => ⟨S4x128x128, .f32⟩
  | 28 => ⟨S_, .f32⟩
  | 29 => ⟨S_, .f32⟩
  | 30 => ⟨S4x128x128, .i1⟩
  | 31 => ⟨S4x128x128, .f32⟩
  | 32 => ⟨S4x128x128, .f32⟩
  | 33 => ⟨S4x1, .f32⟩
  | 34 => ⟨S_, .f32⟩
  | 35 => ⟨S128, .f32⟩
  | 36 => ⟨S128, .f32⟩
  | 37 => ⟨S1x128, .f32⟩
  | 38 => ⟨S4x128, .f32⟩
  | 39 => ⟨S4x128, .f32⟩
  | 40 => ⟨S4x128, .f32⟩
  | 41 => ⟨S4x128, .f32⟩
  | 42 => ⟨S4x128x1, .f32⟩
  | 43 => ⟨S4x1, .f32⟩
  | 44 => ⟨S_, .f32⟩
  | 45 => ⟨S128, .f32⟩
  | 46 => ⟨S128, .f32⟩
  | 47 => ⟨S1x128, .f32⟩
  | 48 => ⟨S4x128, .f32⟩
  | 49 => ⟨S4x128, .f32⟩
  | 50 => ⟨S4x128, .f32⟩
  | 51 => ⟨S4x128, .f32⟩
  | 52 => ⟨S4x128x1, .f32⟩
  | 53 => ⟨S_, .f32⟩
  | 54 => ⟨S4, .f32⟩
  | 55 => ⟨S4, .f32⟩
  | 56 => ⟨S4, .f32⟩
  | 57 => ⟨S4x1x1, .f32⟩
  | 58 => ⟨S_, .f32⟩
  | 59 => ⟨S16x4x128x256, .f32⟩
  | 60 => ⟨S16x128x4x128, .f32⟩
  | 61 => ⟨S16x4x128x128, .f32⟩
  | 62 => ⟨S16x128x4x128, .f32⟩
  | 63 => ⟨S16x4x128x128, .f32⟩
  | 64 => ⟨S16x128x4x256, .f32⟩
  | 65 => ⟨S16x4x128x256, .f32⟩
  | 66 => ⟨S16x4x128x128, .f32⟩
  | 67 => ⟨S1x4x128x128, .f32⟩
  | 68 => ⟨S16x4x128x128, .f32⟩
  | 69 => ⟨S16x4x128x128, .f32⟩
  | 70 => ⟨S16x4x128x256, .f32⟩
  | 71 => ⟨S1x4x128x1, .f32⟩
  | 72 => ⟨S16x4x128x128, .f32⟩
  | 73 => ⟨S16x4x128x128, .f32⟩
  | 74 => ⟨S16x4x128x256, .f32⟩
  | 75 => ⟨S16x4x128x256, .f32⟩
  | 76 => ⟨S1x4x1x1, .f32⟩
  | 77 => ⟨S16x4x128x256, .f32⟩
  | 78 => ⟨S16x4x128x256, .f32⟩
  | 79 => ⟨S1x4x128x1, .f32⟩
  | 80 => ⟨S16x4x128x128, .f32⟩
  | 81 => ⟨S16x4x128x128, .f32⟩
  | 82 => ⟨S16x4x128x256, .f32⟩
  | 83 => ⟨S16x4x128x256, .f32⟩
  | 84 => ⟨S16x128x4x256, .f32⟩
  | 85 => ⟨S16x128x4x128, .f32⟩
  | 86 => ⟨S16x4x128x128, .f32⟩
  | 87 => ⟨S16x128x4x128, .f32⟩
  | 88 => ⟨S16x4x128x128, .f32⟩
  | 89 => ⟨S16x128x4x256, .f32⟩
  | 90 => ⟨S16x4x128x256, .f32⟩
  | 91 => ⟨S16x4x128x128, .f32⟩
  | 92 => ⟨S1x4x128x128, .f32⟩
  | 93 => ⟨S16x4x128x128, .f32⟩
  | 94 => ⟨S16x4x128x128, .f32⟩
  | 95 => ⟨S16x4x128x256, .f32⟩
  | 96 => ⟨S1x4x128x1, .f32⟩
  | 97 => ⟨S16x4x128x128, .f32⟩
  | 98 => ⟨S16x4x128x128, .f32⟩
  | 99 => ⟨S16x4x128x256, .f32⟩
  | 100 => ⟨S16x4x128x256, .f32⟩
  | 101 => ⟨S1x4x1x1, .f32⟩
  | 102 => ⟨S16x4x128x256, .f32⟩
  | 103 => ⟨S16x4x128x256, .f32⟩
  | 104 => ⟨S1x4x128x1, .f32⟩
  | 105 => ⟨S16x4x128x128, .f32⟩
  | 106 => ⟨S16x4x128x128, .f32⟩
  | 107 => ⟨S16x4x128x256, .f32⟩
  | 108 => ⟨S16x4x128x256, .f32⟩
  | 109 => ⟨S16x128x4x256, .f32⟩
  | 110 => ⟨S16x256x4x256, .f32⟩
  | 111 => ⟨S16x256x4x256, .f32⟩
  | 112 => ⟨S16x256x4x256, .f32⟩
  | 113 => ⟨S_, .f32⟩
  | 114 => ⟨S16x256x4, .f32⟩
  | 115 => ⟨S16x256x4x1, .f32⟩
  | 116 => ⟨S_, .f32⟩
  | 117 => ⟨S16x256x4x1, .f32⟩
  | 118 => ⟨S16x256x4x1, .f32⟩
  | 119 => ⟨S16x256x4x256, .f32⟩
  | 120 => ⟨S16x256x4x256, .f32⟩
  | 121 => ⟨S16x256x4x256, .f32⟩
  | 122 => ⟨S_, .f32⟩
  | 123 => ⟨S16x256x4, .f32⟩
  | 124 => ⟨S16x256x4x1, .f32⟩
  | 125 => ⟨S_, .f32⟩
  | 126 => ⟨S16x256x4x1, .f32⟩
  | 127 => ⟨S16x256x4x1, .f32⟩
  | _ => ⟨S16x256x7680, .f32⟩

abbrev hbmTy0_2 (i : Nat) : BufTy := match i % 128 with
  | 0 => ⟨S_, .f32⟩
  | 1 => ⟨S16x256x4x1, .f32⟩
  | 2 => ⟨S16x256x4x1, .f32⟩
  | 3 => ⟨S16x256x4x1, .f32⟩
  | 4 => ⟨S16x256x4x256, .f32⟩
  | 5 => ⟨S16x256x4x256, .f32⟩
  | 6 => ⟨S16x256x1024, .f32⟩
  | 7 => ⟨S16x256x1024, .f32⟩
  | 8 => ⟨S16x256x1024, .f32⟩
  | 9 => ⟨S_, .f32⟩
  | 10 => ⟨S16x256x1024, .f32⟩
  | 11 => ⟨S16x256x1024, .f32⟩
  | 12 => ⟨S_, .f32⟩
  | 13 => ⟨S16x256x1024, .f32⟩
  | 14 => ⟨S16x256x1024, .f32⟩
  | 15 => ⟨S16x256x1024, .f32⟩
  | 16 => ⟨S16x256x1024, .f32⟩
  | 17 => ⟨S16x1x4x128x256, .f32⟩
  | 18 => ⟨S16x1x4x128x256, .f32⟩
  | 19 => ⟨S16x2x4x128x256, .f32⟩
  | _ => ⟨S16x256x7680, .f32⟩

abbrev hbmTy (i : Nat) : BufTy := match i / 128 with
  | 0 => hbmTy0_0 i
  | 1 => hbmTy0_1 i
  | 2 => hbmTy0_2 i
  | _ => ⟨S16x256x7680, .f32⟩

abbrev bufTy : (tb : Table) → Fin (tcTables nBuf tb) → BufTy
  | .hbm, ⟨i, _⟩ => hbmTy i
  | _, _ => ⟨S16x256x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v31 : Ref sig .tc := ⟨.hbm, 53, rfl⟩
abbrev main_v32 : Ref sig .tc := ⟨.hbm, 54, rfl⟩
abbrev main_cst_3 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_4 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_5 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_6 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_cst_7 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_cst_8 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_9 : Ref sig .tc := ⟨.hbm, 156, rfl⟩
abbrev main_call2_v0 : Ref sig .tc := ⟨.hbm, 157, rfl⟩
abbrev main_call2_v1 : Ref sig .tc := ⟨.hbm, 158, rfl⟩
abbrev main_call2_v2 : Ref sig .tc := ⟨.hbm, 159, rfl⟩
abbrev main_v128 : Ref sig .tc := ⟨.hbm, 160, rfl⟩
abbrev main_v129 : Ref sig .tc := ⟨.hbm, 161, rfl⟩
abbrev main_cst_10 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_cst_11 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_cst_12 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_cst_13 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_cst_14 : Ref sig .tc := ⟨.hbm, 241, rfl⟩
abbrev main_v205 : Ref sig .tc := ⟨.hbm, 242, rfl⟩
abbrev main_v206 : Ref sig .tc := ⟨.hbm, 243, rfl⟩
abbrev main_cst_15 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_cst_16 : Ref sig .tc := ⟨.hbm, 250, rfl⟩
abbrev main_v212 : Ref sig .tc := ⟨.hbm, 251, rfl⟩
abbrev main_v213 : Ref sig .tc := ⟨.hbm, 252, rfl⟩
abbrev main_cst_17 : Ref sig .tc := ⟨.hbm, 253, rfl⟩
abbrev main_v214 : Ref sig .tc := ⟨.hbm, 254, rfl⟩
abbrev main_v215 : Ref sig .tc := ⟨.hbm, 255, rfl⟩
abbrev main_cst_18 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_cst_19 : Ref sig .tc := ⟨.hbm, 265, rfl⟩
abbrev main_v224 : Ref sig .tc := ⟨.hbm, 266, rfl⟩
abbrev main_v225 : Ref sig .tc := ⟨.hbm, 267, rfl⟩
abbrev main_cst_20 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩

abbrev nD : Nat := 1
abbrev τ : Topo := Topo.v7x

variable {F : FTy → Type} [FloatOps F]
-- ==== Kernel2.lean ====
abbrev S16x256x1024 : Shape := ⟨3, ![16, 256, 1024]⟩
abbrev S8x3072 : Shape := ⟨2, ![8, 3072]⟩
abbrev S1024 : Shape := ⟨1, ![1024]⟩
abbrev S1024x7680 : Shape := ⟨2, ![1024, 7680]⟩
abbrev S1024x512 : Shape := ⟨2, ![1024, 512]⟩
abbrev S1024x1024 : Shape := ⟨2, ![1024, 1024]⟩
abbrev S1024x256 : Shape := ⟨2, ![1024, 256]⟩
abbrev S1024x4x4x64 : Shape := ⟨4, ![1024, 4, 4, 64]⟩
abbrev S4096x1024 : Shape := ⟨2, ![4096, 1024]⟩
abbrev S8x1x3072 : Shape := ⟨3, ![8, 1, 3072]⟩
abbrev S1x1024 : Shape := ⟨2, ![1, 1024]⟩
abbrev S4096x7680 : Shape := ⟨2, ![4096, 7680]⟩
abbrev S1x1x3072 : Shape := ⟨3, ![1, 1, 3072]⟩
abbrev S1024x1280 : Shape := ⟨2, ![1024, 1280]⟩
abbrev S1x3072 : Shape := ⟨2, ![1, 3072]⟩
abbrev S1024x1 : Shape := ⟨2, ![1024, 1]⟩

abbrev nBuf : Space → Nat
  | .hbm => 26
  | .vmem => 9
  | .smem => 0
  | _ => 0

abbrev bufTy : (tb : Table) → Fin (tcTables nBuf tb) → BufTy
  | .hbm, ⟨0, _⟩ => ⟨S16x256x1024, .f32⟩
  | .hbm, ⟨1, _⟩ => ⟨S8x3072, .f32⟩
  | .hbm, ⟨2, _⟩ => ⟨S1024, .f32⟩
  | .hbm, ⟨3, _⟩ => ⟨S1024x7680, .f32⟩
  | .hbm, ⟨4, _⟩ => ⟨S1024x512, .f32⟩
  | .hbm, ⟨5, _⟩ => ⟨S1024x512, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x256, .f32⟩
  | .hbm, ⟨12, _⟩ => ⟨S1024x256, .f32⟩
  | .hbm, ⟨13, _⟩ => ⟨S1024x1024, .f32⟩
  | .hbm, ⟨14, _⟩ => ⟨S1024x4x4x64, .f32⟩
  | .hbm, ⟨15, _⟩ => ⟨S1024x4x4x64, .f32⟩
  | .hbm, ⟨16, _⟩ => ⟨S1024x1024, .f32⟩
  | .hbm, ⟨17, _⟩ => ⟨S1024x4x4x64, .f32⟩
  | .hbm, ⟨18, _⟩ => ⟨S1024x4x4x64, .f32⟩
  | .hbm, ⟨19, _⟩ => ⟨S1024x1024, .f32⟩
  | .hbm, ⟨20, _⟩ => ⟨S1024x7680, .f32⟩
  | .hbm, ⟨21, _⟩ => ⟨S1024x7680, .bf16⟩
  | .hbm, ⟨22, _⟩ => ⟨S4096x1024, .f32⟩
  | .hbm, ⟨23, _⟩ => ⟨S8x1x3072, .f32⟩
  | .hbm, ⟨24, _⟩ => ⟨S1x1024, .f32⟩
  | .hbm, ⟨25, _⟩ => ⟨S4096x7680, .f32⟩
  | .local _ .vmem, ⟨0, _⟩ => ⟨S1024x1024, .f32⟩
  | .local _ .vmem, ⟨1, _⟩ => ⟨S1024x1024, .f32⟩
  | .local _ .vmem, ⟨2, _⟩ => ⟨S1x1x3072, .f32⟩
  | .local _ .vmem, ⟨3, _⟩ => ⟨S1x1024, .f32⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | .local _ .vmem, ⟨7, _⟩ => ⟨S1024x1280, .f32⟩
  | .local _ .vmem, ⟨8, _⟩ => ⟨S4096x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![6, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v38 : Index := Scalar.indexCast v1
  let c0_16 : Index := 0#32
  ![v38.toNat, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v5 : Index := Scalar.indexCast v1
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S16x256x1024 : Shape := ⟨3, ![16, 256, 1024]⟩
abbrev S8x3072 : Shape := ⟨2, ![8, 3072]⟩
abbrev S1024 : Shape := ⟨1, ![1024]⟩
abbrev S1024x7680 : Shape := ⟨2, ![1024, 7680]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S4096x7680 : Shape := ⟨2, ![4096, 7680]⟩
abbrev S4096x512 : Shape := ⟨2, ![4096, 512]⟩
abbrev S4096x256 : Shape := ⟨2, ![4096, 256]⟩
abbrev S4096x4x4x64 : Shape := ⟨4, ![4096, 4, 4, 64]⟩

abbrev nBuf : Space → Nat
  | .hbm => 52
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S8x3072, .f32⟩
  | .hbm, ⟨2, _⟩ => ⟨S1024, .f32⟩
  | .hbm, ⟨3, _⟩ => ⟨S1024x7680, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x7680, .f32⟩
  | .hbm, ⟨35, _⟩ => ⟨S4096x512, .f32⟩
  | .hbm, ⟨36, _⟩ => ⟨S4096x512, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x256, .f32⟩
  | .hbm, ⟨43, _⟩ => ⟨S4096x256, .f32⟩
  | .hbm, ⟨44, _⟩ => ⟨S4096x1024, .f32⟩
  | .hbm, ⟨45, _⟩ => ⟨S4096x4x4x64, .f32⟩
  | .hbm, ⟨46, _⟩ => ⟨S4096x4x4x64, .f32⟩
  | .hbm, ⟨47, _⟩ => ⟨S4096x1024, .f32⟩
  | .hbm, ⟨48, _⟩ => ⟨S4096x4x4x64, .f32⟩
  | .hbm, ⟨49, _⟩ => ⟨S4096x4x4x64, .f32⟩
  | .hbm, ⟨50, _⟩ => ⟨S4096x1024, .f32⟩
  | .hbm, ⟨51, _⟩ => ⟨S4096x7680, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== Kernel3.lean ====
abbrev S16x256x1024 : Shape := ⟨3, ![16, 256, 1024]⟩
abbrev S8x3072 : Shape := ⟨2, ![8, 3072]⟩
abbrev S1024 : Shape := ⟨1, ![1024]⟩
abbrev S1024x3072 : Shape := ⟨2, ![1024, 3072]⟩
abbrev S3072 : Shape := ⟨1, ![3072]⟩
abbrev S3x1024x1024 : Shape := ⟨3, ![3, 1024, 1024]⟩
abbrev S1024x1024 : Shape := ⟨2, ![1024, 1024]⟩
abbrev S1x1024x1024 : Shape := ⟨3, ![1, 1024, 1024]⟩
abbrev S4x4x64x1024 : Shape := ⟨4, ![4, 4, 64, 1024]⟩
abbrev S4096x1024 : Shape := ⟨2, ![4096, 1024]⟩
abbrev S8x1x3072 : Shape := ⟨3, ![8, 1, 3072]⟩
abbrev S1x1024 : Shape := ⟨2, ![1, 1024]⟩
abbrev S1x3072 : Shape := ⟨2, ![1, 3072]⟩
abbrev S512x1024 : Shape := ⟨2, ![512, 1024]⟩
abbrev S1x1x3072 : Shape := ⟨3, ![1, 1, 3072]⟩
abbrev S512 : Shape := ⟨1, ![512]⟩
abbrev S512x1 : Shape := ⟨2, ![512, 1]⟩

abbrev nBuf : Space → Nat
  | .hbm => 36
  | .vmem => 17
  | .smem => 0
  | _ => 0

abbrev bufTy : (tb : Table) → Fin (tcTables nBuf tb) → BufTy
  | .hbm, ⟨0, _⟩ => ⟨S16x256x1024, .f32⟩
  | .hbm, ⟨1, _⟩ => ⟨S16x256x1024, .f32⟩
  | .hbm, ⟨2, _⟩ => ⟨S16x256x1024, .f32⟩
  | .hbm, ⟨3, _⟩ => ⟨S16x256x1024, .f32⟩
  | .hbm, ⟨4, _⟩ => ⟨S8x3072, .f32⟩
  | .hbm, ⟨5, _⟩ => ⟨S1024, .f32⟩
  | .hbm, ⟨6, _⟩ => ⟨S1024, .f32⟩
  | .hbm, ⟨7, _⟩ => ⟨S1024x3072, .f32⟩
  | .hbm, ⟨8, _⟩ => ⟨S3072, .f32⟩
  | .hbm, ⟨9, _⟩ => ⟨S3x1024x1024, .f32⟩
  | .hbm, ⟨10, _⟩ => ⟨S1024x1024, .f32⟩
  | .hbm, ⟨11, _⟩ => ⟨S1x1024x1024, .f32⟩
  | .hbm, ⟨12, _⟩ => ⟨S1024x1024, .f32⟩
  | .hbm, ⟨13, _⟩ => ⟨S1x1024x1024, .f32⟩
  | .hbm, ⟨14, _⟩ => ⟨S1024x1024, .f32⟩
  | .hbm, ⟨15, _⟩ => ⟨S1x1024x1024, .f32⟩
  | .hbm, ⟨16, _⟩ => ⟨S1024x1024, .f32⟩
  | .hbm, ⟨17, _⟩ => ⟨S4x4x64x1024, .f32⟩
  | .hbm, ⟨18, _⟩ => ⟨S4x4x64x1024, .f32⟩
  | .hbm, ⟨19, _⟩ => ⟨S1024x1024, .f32⟩
  | .hbm, ⟨20, _⟩ => ⟨S1x1024x1024, .f32⟩
  | .hbm, ⟨21, _⟩ => ⟨S1x1024x1024, .f32⟩
  | .hbm, ⟨22, _⟩ => ⟨S1x1024x1024, .f32⟩
  | .hbm, ⟨23, _⟩ => ⟨S3x1024x1024, .f32⟩
  | .hbm, ⟨24, _⟩ => ⟨S3x1024x1024, .bf16⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S8x1x3072, .f32⟩
  | .hbm, ⟨30, _⟩ => ⟨S1x1024, .f32⟩
  | .hbm, ⟨31, _⟩ => ⟨S1x1024, .f32⟩
  | .hbm, ⟨32, _⟩ => ⟨S1024x3072, .bf16⟩
  | .hbm, ⟨33, _⟩ => ⟨S1x3072, .f32⟩
  | .hbm, ⟨34, _⟩ => ⟨S1024x1024, .bf16⟩
  | .hbm, ⟨35, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1x3072, .f32⟩
  | .local _ .vmem, ⟨9, _⟩ => ⟨S1x1024, .f32⟩
  | .local _ .vmem, ⟨10, _⟩ => ⟨S1x1024, .f32⟩
  | .local _ .vmem, ⟨11, _⟩ => ⟨S1024x3072, .bf16⟩
  | .local _ .vmem, ⟨12, _⟩ => ⟨S1x3072, .f32⟩
  | .local _ .vmem, ⟨13, _⟩ => ⟨S3x1024x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16x256x1024 : Shape := ⟨3, ![16, 256, 1024]⟩
abbrev S8x3072 : Shape := ⟨2, ![8, 3072]⟩
abbrev S1024 : Shape := ⟨1, ![1024]⟩
abbrev S1024x3072 : Shape := ⟨2, ![1024, 3072]⟩
abbrev S3072 : Shape := ⟨1, ![3072]⟩
abbrev S3x1024x1024 : Shape := ⟨3, ![3, 1024, 1024]⟩
abbrev S1024x1024 : Shape := ⟨2, ![1024, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4x4x64 : Shape := ⟨4, ![4096, 4, 4, 64]⟩
abbrev S1x1024x1024 : Shape := ⟨3, ![1, 1024, 1024]⟩
abbrev S4096x3072 : Shape := ⟨2, ![4096, 3072]⟩
abbrev S1x3072 : Shape := ⟨2, ![1, 3072]⟩

abbrev nBuf : Space → Nat
  | .hbm => 98
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x256x1024, .f32⟩
  | .hbm, ⟨2, _⟩ => ⟨S16x256x1024, .f32⟩
  | .hbm, ⟨3, _⟩ => ⟨S16x256x1024, .f32⟩
  | .hbm, ⟨4, _⟩ => ⟨S8x3072, .f32⟩
  | .hbm, ⟨5, _⟩ => ⟨S1024, .f32⟩
  | .hbm, ⟨6, _⟩ => ⟨S1024, .f32⟩
  | .hbm, ⟨7, _⟩ => ⟨S1024x3072, .f32⟩
  | .hbm, ⟨8, _⟩ => ⟨S3072, .f32⟩
  | .hbm, ⟨9, _⟩ => ⟨S3x1024x1024, .f32⟩
  | .hbm, ⟨10, _⟩ => ⟨S1024x1024, .f32⟩
  | .hbm, ⟨11, _⟩ => ⟨S4096x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x4x4x64, .f32⟩
  | .hbm, ⟨44, _⟩ => ⟨S4096x4x4x64, .f32⟩
  | .hbm, ⟨45, _⟩ => ⟨S4096x1024, .f32⟩
  | .hbm, ⟨46, _⟩ => ⟨S4096x1024, .f32⟩
  | .hbm, ⟨47, _⟩ => ⟨S1x1024x1024, .f32⟩
  | .hbm, ⟨48, _⟩ => ⟨S1024x1024, .f32⟩
  | .hbm, ⟨49, _⟩ => ⟨S4096x1024, .f32⟩
  | .hbm, ⟨50, _⟩ => ⟨S4096x1024, .f32⟩
  | .hbm, ⟨51, _⟩ => ⟨S1x1024x1024, .f32⟩
  | .hbm, ⟨52, _⟩ => ⟨S1024x1024, .f32⟩
  | .hbm, ⟨53, _⟩ => ⟨S4096x1024, .f32⟩
  | .hbm, ⟨54, _⟩ => ⟨S1x1024x1024, .f32⟩
  | .hbm, ⟨55, _⟩ => ⟨S1024x1024, .f32⟩
  | .hbm, ⟨56, _⟩ => ⟨S4096x1024, .f32⟩
  | .hbm, ⟨57, _⟩ => ⟨S4096x3072, .f32⟩
  | .hbm, ⟨58, _⟩ => ⟨S1x3072, .f32⟩
  | .hbm, ⟨59, _⟩ => ⟨S4096x3072, .f32⟩
  | .hbm, ⟨60, _⟩ => ⟨S4096x3072, .f32⟩
  | .hbm, ⟨61, _⟩ => ⟨S4096x3072, .f32⟩
  | .hbm, ⟨62, _⟩ => ⟨S4096x3072, .f32⟩
  | .hbm, ⟨63, _⟩ => ⟨S_, .f32⟩
  | .hbm, ⟨64, _⟩ => ⟨S4096x3072, .f32⟩
  | .hbm, ⟨65, _⟩ => ⟨S4096x3072, .f32⟩
  | .hbm, ⟨66, _⟩ => ⟨S_, .f32⟩
  | .hbm, ⟨67, _⟩ => ⟨S4096x3072, .f32⟩
  | .hbm, ⟨68, _⟩ => ⟨S4096x3072, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S4096x1, .f32⟩
  | .hbm, ⟨89, _⟩ => ⟨S4096x1024, .f32⟩
  | .hbm, ⟨90, _⟩ => ⟨S4096x1024, .f32⟩
  | .hbm, ⟨91, _⟩ => ⟨S1x1024, .f32⟩
  | .hbm, ⟨92, _⟩ => ⟨S4096x1024, .f32⟩
  | .hbm, ⟨93, _⟩ => ⟨S4096x1024, .f32⟩
  | .hbm, ⟨94, _⟩ => ⟨S1x1024, .f32⟩
  | .hbm, ⟨95, _⟩ => ⟨S4096x1024, .f32⟩
  | .hbm, ⟨96, _⟩ => ⟨S4096x1024, .f32⟩
  | .hbm, ⟨97, _⟩ => ⟨S4096x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_3 : Ref sig .tc := ⟨.hbm, 63, rfl⟩
abbrev main_v48 : Ref sig .tc := ⟨.hbm, 64, rfl⟩
abbrev main_v49 : Ref sig .tc := ⟨.hbm, 65, rfl⟩
abbrev main_cst_4 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_5 : Ref sig .tc := ⟨.hbm, 79, rfl⟩
abbrev main_v62 : Ref sig .tc := ⟨.hbm, 80, rfl⟩
abbrev main_v63 : Ref sig .tc := ⟨.hbm, 81, rfl⟩
abbrev main_cst_6 : Ref sig .tc := ⟨.hbm, 82, rfl⟩
abbrev main_v64 : Ref sig .tc := ⟨.hbm, 83, rfl⟩
abbrev main_v65 : Ref sig .tc := ⟨.hbm, 84, rfl⟩
abbrev main_cst_7 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== Kernel4.lean ====
abbrev S16x256x7680 : Shape := ⟨3, ![16, 256, 7680]⟩
abbrev S16 : Shape := ⟨1, ![16]⟩
abbrev S16x256x1024 : Shape := ⟨3, ![16, 256, 1024]⟩
abbrev S2x256x1024 : Shape := ⟨3, ![2, 256, 1024]⟩
abbrev S2x256x256 : Shape := ⟨3, ![2, 256, 256]⟩
abbrev S2x4x256x256 : Shape := ⟨4, ![2, 4, 256, 256]⟩
abbrev S1x256x256 : Shape := ⟨3, ![1, 256, 256]⟩
abbrev S256x256 : Shape := ⟨2, ![256, 256]⟩
abbrev S1x4x256x256 : Shape := ⟨4, ![1, 4, 256, 256]⟩
abbrev S4x256x256 : Shape := ⟨3, ![4, 256, 256]⟩
abbrev S1x1x256x256 : Shape := ⟨4, ![1, 1, 256, 256]⟩
abbrev S1x256x1024 : Shape := ⟨3, ![1, 256, 1024]⟩
abbrev S256x1024 : Shape := ⟨2, ![256, 1024]⟩
abbrev S1024x256 : Shape := ⟨2, ![1024, 256]⟩
abbrev S1 : Shape := ⟨1, ![1]⟩
abbrev S256x1 : Shape := ⟨2, ![256, 1]⟩
abbrev S1024x1 : Shape := ⟨2, ![1024, 1]⟩
abbrev S1024 : Shape := ⟨1, ![1024]⟩

abbrev nBuf : Space → Nat
  | .hbm => 3
  | .vmem => 12
  | .smem => 1
  | _ => 0

abbrev bufTy : (tb : Table) → Fin (tcTables nBuf tb) → BufTy
  | .hbm, ⟨0, _⟩ => ⟨S16x256x7680, .f32⟩
  | .hbm, ⟨1, _⟩ => ⟨S16, .f32⟩
  | .hbm, ⟨2, _⟩ => ⟨S16x256x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .f32⟩
  | .local _ .vmem, ⟨3, _⟩ => ⟨S2x256x1024, .f32⟩
  | .local _ .vmem, ⟨4, _⟩ => ⟨S2x256x256, .f32⟩
  | .local _ .vmem, ⟨5, _⟩ => ⟨S2x256x256, .f32⟩
  | .local _ .vmem, ⟨6, _⟩ => ⟨S2x256x256, .f32⟩
  | .local _ .vmem, ⟨7, _⟩ => ⟨S2x256x256, .f32⟩
  | .local _ .vmem, ⟨8, _⟩ => ⟨S2x256x1024, .f32⟩
  | .local _ .vmem, ⟨9, _⟩ => ⟨S2x256x1024, .f32⟩
  | .local _ .vmem, ⟨10, _⟩ => ⟨S2x4x256x256, .bf16⟩
  | .local _ .vmem, ⟨11, _⟩ => ⟨S2x4x256x256, .bf16⟩
  | .local _ .smem, ⟨0, _⟩ => ⟨S16, .f32⟩
  | _, _ => ⟨S16x256x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c28_i32 : BitVec 32 := 28#32
  let c0_i32_0 : BitVec 32 := 0#32
  ![arg0.toNat, c0_i32.toNat, c28_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c29_i32 : BitVec 32 := 29#32
  let c0_i32_0 : BitVec 32 := 0#32
  ![arg0.toNat, c0_i32.toNat, c29_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16x256x7680 : Shape := ⟨3, ![16, 256, 7680]⟩
abbrev S16 : Shape := ⟨1, ![16]⟩
abbrev S16x256x1024 : Shape := ⟨3, ![16, 256, 1024]⟩
abbrev S16x256x4x4x64 : Shape := ⟨5, ![16, 256, 4, 4, 64]⟩
abbrev S16x256x256 : Shape := ⟨3, ![16, 256, 256]⟩
abbrev S16x256x4x64 : Shape := ⟨4, ![16, 256, 4, 64]⟩
abbrev S16x4x256x256x4 : Shape := ⟨5, ![16, 4, 256, 256, 4]⟩
abbrev S16x4x4x256x256 : Shape := ⟨5, ![16, 4, 4, 256, 256]⟩
abbrev S_ : Shape := ⟨0, ![]⟩
abbrev S4x4 : Shape := ⟨2, ![4, 4]⟩
abbrev S1x4x4x1 : Shape := ⟨4, ![1, 4, 4, 1]⟩
abbrev S16x4x4x256 : Shape := ⟨4, ![16, 4, 4, 256]⟩
abbrev S16x4x4x256x1 : Shape := ⟨5, ![16, 4, 4, 256, 1]⟩
abbrev S16x4x64x4x256 : Shape := ⟨5, ![16, 4, 64, 4, 256]⟩

abbrev nBuf : Space → Nat
  | .hbm => 46
  | .vmem => 0
  | .smem => 0
  | _ => 0

abbrev bufTy : (tb : Table) → Fin (tcTables nBuf tb) → BufTy
  | .hbm, ⟨0, _⟩ => ⟨S16x256x7680, .f32⟩
  | .hbm, ⟨1, _⟩ => ⟨S16, .f32⟩
  | .hbm, ⟨2, _⟩ => ⟨S16x256x1024, .f32⟩
  | .hbm, ⟨3, _⟩ => ⟨S16x256x4x4x64, .f32⟩
  | .hbm, ⟨4, _⟩ => ⟨S16x256x1024, .f32⟩
  | .hbm, ⟨5, _⟩ => ⟨S16x256x256, .f32⟩
  | .hbm, ⟨6, _⟩ => ⟨S16x256x4x64, .f32⟩
  | .hbm, ⟨7, _⟩ => ⟨S16x256x256, .f32⟩
  | .hbm, ⟨8, _⟩ => ⟨S16x256x4x64, .f32⟩
  | .hbm, ⟨9, _⟩ => ⟨S16x4x256x256x4, .f32⟩
  | .hbm, ⟨10, _⟩ => ⟨S16x4x4x256x256, .f32⟩
  | .hbm, ⟨11, _⟩ => ⟨S_, .f32⟩
  | .hbm, ⟨12, _⟩ => ⟨S16x4x4x256x256, .f32⟩
  | .hbm, ⟨13, _⟩ => ⟨S16x4x4x256x256, .f32⟩
  | .hbm, ⟨14, _⟩ => ⟨S4x4, .f32⟩
  | .hbm, ⟨15, _⟩ => ⟨S1x4x4x1, .f32⟩
  | .hbm, ⟨16, _⟩ => ⟨S_, .f32⟩
  | .hbm, ⟨17, _⟩ => ⟨S16x4x4x256, .f32⟩
  | .hbm, ⟨18, _⟩ => ⟨S16x4x4x256, .f32⟩
  | .hbm, ⟨19, _⟩ => ⟨S16x4x4x256, .f32⟩
  | .hbm, ⟨20, _⟩ => ⟨S16x4x4x256x1, .f32⟩
  | .hbm, ⟨21, _⟩ => ⟨S16x4x4x256x256, .f32⟩
  | .hbm, ⟨22, _⟩ => ⟨S16x4x4x256x256, .f32⟩
  | .hbm, ⟨23, _⟩ => ⟨S16x4x4x256x256, .f32⟩
  | .hbm, ⟨24, _⟩ => ⟨S_, .f32⟩
  | .hbm, ⟨25, _⟩ => ⟨S16x4x4x256, .f32⟩
  | .hbm, ⟨26, _⟩ => ⟨S16x4x4x256, .f32⟩
  | .hbm, ⟨27, _⟩ => ⟨S16x4x4x256, .f32⟩
  | .hbm, ⟨28, _⟩ => ⟨S16x4x4x256, .f32⟩
  | .hbm, ⟨29, _⟩ => ⟨S16x4x4x256, .f32⟩
  | .hbm, ⟨30, _⟩ => ⟨S16x4x4x256x1, .f32⟩
  | .hbm, ⟨31, _⟩ => ⟨S16x4x4x256x256, .f32⟩
  | .hbm, ⟨32, _⟩ => ⟨S16x4x4x256x256, .f32⟩
  | .hbm, ⟨33, _⟩ => ⟨S16x4x64x4x256, .f32⟩
  | .hbm, ⟨34, _⟩ => ⟨S16x256x4x4x64, .f32⟩
  | .hbm, ⟨35, _⟩ => ⟨S16x256x1024, .f32⟩
  | .hbm, ⟨36, _⟩ => ⟨S16x256x1024, .f32⟩
  | .hbm, ⟨37, _⟩ => ⟨S16x256x1024, .f32⟩
  | .hbm, ⟨38, _⟩ => ⟨S_, .f32⟩
  | .hbm, ⟨39, _⟩ => ⟨S16x256x1024, .f32⟩
  | .hbm, ⟨40, _⟩ => ⟨S16x256x1024, .f32⟩
  | .hbm, ⟨41, _⟩ => ⟨S_, .f32⟩
  | .hbm, ⟨42, _⟩ => ⟨S16x256x1024, .f32⟩
  | .hbm, ⟨43, _⟩ => ⟨S16x256x1024, .f32⟩
  | .hbm, ⟨44, _⟩ => ⟨S16x256x1024, .f32⟩
  | .hbm, ⟨45, _⟩ => ⟨S16x256x1024, .f32⟩
  | _, _ => ⟨S16x256x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_2 : Ref sig .tc := ⟨.hbm, 38, rfl⟩
abbrev main_v33 : Ref sig .tc := ⟨.hbm, 39, rfl⟩
abbrev main_v34 : Ref sig .tc := ⟨.hbm, 40, rfl⟩
abbrev main_cst_3 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩

abbrev nD : Nat := 1
abbrev τ : Topo := Topo.v7x

variable {F : FTy → Type} [FloatOps F]
-- ==== Kernel5.lean ====
abbrev S4x2048x1024 : Shape := ⟨3, ![4, 2048, 1024]⟩
abbrev S8x3072 : Shape := ⟨2, ![8, 3072]⟩
abbrev S1024 : Shape := ⟨1, ![1024]⟩
abbrev S1024x3072 : Shape := ⟨2, ![1024, 3072]⟩
abbrev S3072 : Shape := ⟨1, ![3072]⟩
abbrev S3x1024x1024 : Shape := ⟨3, ![3, 1024, 1024]⟩
abbrev S1024x1024 : Shape := ⟨2, ![1024, 1024]⟩
abbrev S1x1024x1024 : Shape := ⟨3, ![1, 1024, 1024]⟩
abbrev S4x4x64x1024 : Shape := ⟨4, ![4, 4, 64, 1024]⟩
abbrev S8192x1024 : Shape := ⟨2, ![8192, 1024]⟩
abbrev S8x1x3072 : Shape := ⟨3, ![8, 1, 3072]⟩
abbrev S1x1024 : Shape := ⟨2, ![1, 1024]⟩
abbrev S1x3072 : Shape := ⟨2, ![1, 3072]⟩
abbrev S512x1024 : Shape := ⟨2, ![512, 1024]⟩
abbrev S1x1x3072 : Shape := ⟨3, ![1, 1, 3072]⟩
abbrev S512 : Shape := ⟨1, ![512]⟩
abbrev S512x1 : Shape := ⟨2, ![512, 1]⟩

abbrev nBuf : Space → Nat
  | .hbm => 36
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S8x3072, .f32⟩
  | .hbm, ⟨5, _⟩ => ⟨S1024, .f32⟩
  | .hbm, ⟨6, _⟩ => ⟨S1024, .f32⟩
  | .hbm, ⟨7, _⟩ => ⟨S1024x3072, .f32⟩
  | .hbm, ⟨8, _⟩ => ⟨S3072, .f32⟩
  | .hbm, ⟨9, _⟩ => ⟨S3x1024x1024, .f32⟩
  | .hbm, ⟨10, _⟩ => ⟨S1024x1024, .f32⟩
  | .hbm, ⟨11, _⟩ => ⟨S1x1024x1024, .f32⟩
  | .hbm, ⟨12, _⟩ => ⟨S1024x1024, .f32⟩
  | .hbm, ⟨13, _⟩ => ⟨S1x1024x1024, .f32⟩
  | .hbm, ⟨14, _⟩ => ⟨S1024x1024, .f32⟩
  | .hbm, ⟨15, _⟩ => ⟨S1x1024x1024, .f32⟩
  | .hbm, ⟨16, _⟩ => ⟨S1024x1024, .f32⟩
  | .hbm, ⟨17, _⟩ => ⟨S4x4x64x1024, .f32⟩
  | .hbm, ⟨18, _⟩ => ⟨S4x4x64x1024, .f32⟩
  | .hbm, ⟨19, _⟩ => ⟨S1024x1024, .f32⟩
  | .hbm, ⟨20, _⟩ => ⟨S1x1024x1024, .f32⟩
  | .hbm, ⟨21, _⟩ => ⟨S1x1024x1024, .f32⟩
  | .hbm, ⟨22, _⟩ => ⟨S1x1024x1024, .f32⟩
  | .hbm, ⟨23, _⟩ => ⟨S3x1024x1024, .f32⟩
  | .hbm, ⟨24, _⟩ => ⟨S3x1024x1024, .bf16⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8x1x3072, .f32⟩
  | .hbm, ⟨30, _⟩ => ⟨S1x1024, .f32⟩
  | .hbm, ⟨31, _⟩ => ⟨S1x1024, .f32⟩
  | .hbm, ⟨32, _⟩ => ⟨S1024x3072, .bf16⟩
  | .hbm, ⟨33, _⟩ => ⟨S1x3072, .f32⟩
  | .hbm, ⟨34, _⟩ => ⟨S1024x1024, .bf16⟩
  | .hbm, ⟨35, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1x3072, .f32⟩
  | .local _ .vmem, ⟨9, _⟩ => ⟨S1x1x3072, .f32⟩
  | .local _ .vmem, ⟨10, _⟩ => ⟨S1x1024, .f32⟩
  | .local _ .vmem, ⟨11, _⟩ => ⟨S1x1024, .f32⟩
  | .local _ .vmem, ⟨12, _⟩ => ⟨S1024x3072, .bf16⟩
  | .local _ .vmem, ⟨13, _⟩ => ⟨S1x3072, .f32⟩
  | .local _ .vmem, ⟨14, _⟩ => ⟨S3x1024x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S4x2048x1024 : Shape := ⟨3, ![4, 2048, 1024]⟩
abbrev S8x3072 : Shape := ⟨2, ![8, 3072]⟩
abbrev S1024 : Shape := ⟨1, ![1024]⟩
abbrev S1024x3072 : Shape := ⟨2, ![1024, 3072]⟩
abbrev S3072 : Shape := ⟨1, ![3072]⟩
abbrev S3x1024x1024 : Shape := ⟨3, ![3, 1024, 1024]⟩
abbrev S1024x1024 : Shape := ⟨2, ![1024, 1024]⟩
abbrev S8192x1024 : Shape := ⟨2, ![8192, 1024]⟩
abbrev S4x3072 : Shape := ⟨2, ![4, 3072]⟩
abbrev S4x1x3072 : Shape := ⟨3, ![4, 1, 3072]⟩
abbrev S4x2048x3072 : Shape := ⟨3, ![4, 2048, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4x4x64 : Shape := ⟨4, ![8192, 4, 4, 64]⟩
abbrev S1x1024x1024 : Shape := ⟨3, ![1, 1024, 1024]⟩
abbrev S1x3072 : Shape := ⟨2, ![1, 3072]⟩

abbrev nBuf : Space → Nat
  | .hbm => 93
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S8x3072, .f32⟩
  | .hbm, ⟨5, _⟩ => ⟨S1024, .f32⟩
  | .hbm, ⟨6, _⟩ => ⟨S1024, .f32⟩
  | .hbm, ⟨7, _⟩ => ⟨S1024x3072, .f32⟩
  | .hbm, ⟨8, _⟩ => ⟨S3072, .f32⟩
  | .hbm, ⟨9, _⟩ => ⟨S3x1024x1024, .f32⟩
  | .hbm, ⟨10, _⟩ => ⟨S1024x1024, .f32⟩
  | .hbm, ⟨11, _⟩ => ⟨S8192x1024, .f32⟩
  | .hbm, ⟨12, _⟩ => ⟨S4x3072, .f32⟩
  | .hbm, ⟨13, _⟩ => ⟨S4x1x3072, .f32⟩
  | .hbm, ⟨14, _⟩ => ⟨S4x2048x3072, .f32⟩
  | .hbm, ⟨15, _⟩ => ⟨S8192x3072, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x4x4x64, .f32⟩
  | .hbm, ⟨41, _⟩ => ⟨S8192x4x4x64, .f32⟩
  | .hbm, ⟨42, _⟩ => ⟨S8192x1024, .f32⟩
  | .hbm, ⟨43, _⟩ => ⟨S8192x1024, .f32⟩
  | .hbm, ⟨44, _⟩ => ⟨S1x1024x1024, .f32⟩
  | .hbm, ⟨45, _⟩ => ⟨S1024x1024, .f32⟩
  | .hbm, ⟨46, _⟩ => ⟨S8192x1024, .f32⟩
  | .hbm, ⟨47, _⟩ => ⟨S8192x1024, .f32⟩
  | .hbm, ⟨48, _⟩ => ⟨S1x1024x1024, .f32⟩
  | .hbm, ⟨49, _⟩ => ⟨S1024x1024, .f32⟩
  | .hbm, ⟨50, _⟩ => ⟨S8192x1024, .f32⟩
  | .hbm, ⟨51, _⟩ => ⟨S1x1024x1024, .f32⟩
  | .hbm, ⟨52, _⟩ => ⟨S1024x1024, .f32⟩
  | .hbm, ⟨53, _⟩ => ⟨S8192x1024, .f32⟩
  | .hbm, ⟨54, _⟩ => ⟨S8192x3072, .f32⟩
  | .hbm, ⟨55, _⟩ => ⟨S1x3072, .f32⟩
  | .hbm, ⟨56, _⟩ => ⟨S8192x3072, .f32⟩
  | .hbm, ⟨57, _⟩ => ⟨S8192x3072, .f32⟩
  | .hbm, ⟨58, _⟩ => ⟨S8192x3072, .f32⟩
  | .hbm, ⟨59, _⟩ => ⟨S8192x3072, .f32⟩
  | .hbm, ⟨60, _⟩ => ⟨S_, .f32⟩
  | .hbm, ⟨61, _⟩ => ⟨S8192x3072, .f32⟩
  | .hbm, ⟨62, _⟩ => ⟨S8192x3072, .f32⟩
  | .hbm, ⟨63, _⟩ => ⟨S_, .f32⟩
  | .hbm, ⟨64, _⟩ => ⟨S8192x3072, .f32⟩
  | .hbm, ⟨65, _⟩ => ⟨S8192x3072, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S8192x1, .f32⟩
  | .hbm, ⟨86, _⟩ => ⟨S8192x1024, .f32⟩
  | .hbm, ⟨87, _⟩ => ⟨S8192x1024, .f32⟩
  | .hbm, ⟨88, _⟩ => ⟨S1x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_cst_4 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_5 : Ref sig .tc := ⟨.hbm, 76, rfl⟩
abbrev main_v59 : Ref sig .tc := ⟨.hbm, 77, rfl⟩
abbrev main_v60 : Ref sig .tc := ⟨.hbm, 78, rfl⟩
abbrev main_cst_6 : Ref sig .tc := ⟨.hbm, 79, rfl⟩
abbrev main_v61 : Ref sig .tc := ⟨.hbm, 80, rfl⟩
abbrev main_v62 : Ref sig .tc := ⟨.hbm, 81, rfl⟩
abbrev main_cst_7 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩

abbrev nD : Nat := 1
abbrev τ : Topo := Topo.v7x

variable {F : FTy → Type} [FloatOps F]
-- ==== Proof.InProjRun.lean ====
/-
  The input projection's run: the first column's points norm the rows and keep them, every point multiplies its kept rows by its block of columns.
-/
module

public import proofs.«01_k».proof.Proof.Gen.Kernel2Ideal.Frame
public import Idealize.ShloMosaic.Lib.Pipeline.Value
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows normed, scaled and shifted. -/
def normed (x : Vec F S1024x1024 .f32) (g : Vec F S1x1024 .f32) (md : Vec F S1x1x3072 .f32) : FVec F S1024x1024 .bf16 :=
  let m1 : FVec F S1x3072 .f32 := shapeCast S1x3072 md shapeCasts_S1x1x3072_S1x3072
  let x1 : FVec F S1024x1024 .f32 := shapeCast S1024x1024 x shapeCasts_S1024x1024_S1024x1024
  let s : FVec F S1024x1 .f32 := shapeCast S1024x1 (multiReduction .add [1] S1024 (mulf x1 x1) 0x00000000#32 reduces_S1024x1024_S1024 (.inl rfl) rfl) shapeCasts_S1024_S1024x1
  let r : FVec F S1024x1 .f32 := rsqrt (addf (divf s (broadcast S1024x1 (Scalar.ofBits .f32 0x44800000#32))) (broadcast S1024x1 (Scalar.ofBits .f32 0x358637BD#32)))
  let n : FVec F S1024x1024 .f32 := mulf (mulf x1 (broadcastTo S1024x1024 r broadcasts_S1024x1_S1024x1024))
    (broadcastTo S1024x1024 (shapeCast S1x1024 g shapeCasts_S1x1024_S1x1024) broadcasts_S1x1024_S1024x1024)
  let a : FVec F S1x1024 .f32 := addf (broadcast S1x1024 (Scalar.ofBits .f32 0x3F800000#32)) (extractStridedSlice S1x1024 ![0, 1024] m1 slices_S1x3072_o0_1024_S1x1024)
  let b : FVec F S1x1024 .f32 := extractStridedSlice S1x1024 ![0, 0] m1 slices_S1x3072_o0_0_S1x1024
  shapeCast S1024x1024 (truncf .bf16 (addf (mulf n (broadcastTo S1024x1024 a broadcasts_S1x1024_S1024x1024)) (broadcastTo S1024x1024 b broadcasts_S1x1024_S1024x1024)) bitsLt_bf16_f32) shapeCasts_S1024x1024_S1024x1024

/-- Kept rows times a block of columns. -/
def product (h : Vec F S1024x1024 .bf16) (w : Vec F S1024x1280 .bf16) : FVec F S1024x1280 .f32 :=
  matmul dot_S1024x1024_S1024x1280_S1024x1280_1_0_0_1_n_n none h (shapeCast S1024x1280 w shapeCasts_S1024x1280_S1024x1280) (constant S1024x1280 .f32 0x00000000#32)

/-- The kept rows of block `i`. -/
abbrev keptRows (i : grid0.Coords) : Rect S4096x1024 := Rect.unit (s := S4096x1024) (k0_off2 i) S1024x1024.size (k0_off2_inb i)

abbrev full1024 : Rect S1024x1024 := Rect.unit (s := S1024x1024) ![0, 0] S1024x1024.size inb_S1024x1024_S1024x1024_0_0
abbrev fullMod : Rect S1x1x3072 := Rect.unit (s := S1x1x3072) ![0, 0, 0] S1x1x3072.size inb_S1x1x3072_S1x1x3072_0_0_0
abbrev fullGain : Rect S1x1024 := Rect.unit (s := S1x1024) ![0, 0] S1x1024.size inb_S1x1024_S1x1024_0_0
abbrev fullCols : Rect S1024x1280 := Rect.unit (s := S1024x1280) ![0, 0] S1024x1280.size inb_S1024x1280_S1024x1280_0_0

theorem zero2 : (![0, 0] : Fin 2 → ℕ) = fun _ => 0 := by funext a; fin_cases a <;> rfl
theorem zero3 : (![0, 0, 0] : Fin 3 → ℕ) = fun _ => 0 := by funext a; fin_cases a <;> rfl

/-- One store of the whole block covers it. -/
theorem covered (p : Vec F S1024x1280 .f32) (y : S1024x1280.Idx) :
    ∃ pc ∈ ([⟨fullCols, p⟩] : List (View.Piece (Elt F) S1024x1280 .f32)), y ∈ pc.1.set :=
  View.cover_of_tiled [⟨fullCols, p⟩] S1024x1280.size (by rfl) y

set_option maxHeartbeats 1000000 in
/-- A point of the first column: the rows are normed, kept and multiplied. -/
theorem first_point (c : Dev nD) (E : Set ℕ) (i : grid0.Coords) (hi : k0_cond1 i = 1#1)
    (a2 : Memref sig .tc .vmem S1024x1024 .f32) (h2 : a2.IsWhole) (a3 : Memref sig .tc .vmem S1x1x3072 .f32) (h3 : a3.IsWhole)
    (a4 : Memref sig .tc .vmem S1x1024 .f32) (h4 : a4.IsWhole) (a5 : Memref sig .tc .vmem S1024x1280 .bf16) (h5 : a5.IsWhole)
    (a6 : Memref sig .tc .vmem S1024x1280 .f32) (h6 : a6.IsWhole) (a7 : Memref sig .tc .vmem S4096x1024 .bf16) (h7 : a7.IsWhole)
    (x : Vec F S1024x1024 .f32) (md : Vec F S1x1x3072 .f32) (g : Vec F S1x1024 .f32) (w : Vec F S1024x1280 .bf16) (d : Vec F S4096x1024 .bf16)
    (K : PUnit → sProp 𝕄) :
    iprop(owns (c : Thread nD τ) a2 fullShare x ∗ owns (c : Thread nD τ) a3 fullShare md ∗ owns (c : Thread nD τ) a4 fullShare g
        ∗ owns (c : Thread nD τ) a5 fullShare w ∗ (∃ e, owns (c : Thread nD τ) a6 fullShare e) ∗ owns (c : Thread nD τ) a7 fullShare d
        ∗ (iprop(owns (c : Thread nD τ) a2 fullShare x ∗ owns (c : Thread nD τ) a3 fullShare md ∗ owns (c : Thread nD τ) a4 fullShare g
            ∗ owns (c : Thread nD τ) a5 fullShare w
            ∗ owns (c : Thread nD τ) a6 fullShare (product (normed x g md) w)
            ∗ (∃ X : Vec F S4096x1024 .bf16, ⌜(∀ y, X ((keptRows i).emb y) = normed x g md y)
                ∧ ∀ y, y ∉ (keptRows i).set → X y = d y⌝ ∗ owns (c : Thread nD τ) a7 fullShare X)) -∗ K ⟨⟩))
      ⊢ wp frame (wpE (defs₀ (F := F)) Variants.none c none) E (cc0__in_kernel i a2 h2 a3 h3 a4 h4 a5 h5 a6 h6 a7 h7) K := by
  unfold cc0__in_kernel
  unfold owns
  iintro ⟨⟨%f2, %e2, H2⟩, ⟨%f3, %e3, H3⟩, ⟨%f4, %e4, H4⟩, ⟨%f5, %e5, H5⟩, ⟨%d6, %f6, -, H6⟩, ⟨%f7, %e7, H7⟩, Hk⟩
  subst e2 e3 e4 e5 e7
  sl_exec (disch := sl_exact hi)
  sl_step
  have l2 : View.ld (View.read (Elt F) a2.view f2) full1024 = View.read (Elt F) a2.view f2 := View.ld_unit_zero (Val := Elt F) zero2 _ _
  have l3 : View.ld (View.read (Elt F) a3.view f3) fullMod = View.read (Elt F) a3.view f3 := View.ld_unit_zero (Val := Elt F) zero3 _ _
  have l4 : View.ld (View.read (Elt F) a4.view f4) fullGain = View.read (Elt F) a4.view f4 := View.ld_unit_zero (Val := Elt F) zero2 _ _
  have l5 : View.ld (View.read (Elt F) a5.view f5) fullCols = View.read (Elt F) a5.view f5 := View.ld_unit_zero (Val := Elt F) zero2 _ _
  have en : normed (View.ld (View.read (Elt F) a2.view f2) full1024) (View.ld (View.read (Elt F) a4.view f4) fullGain)
      (View.ld (View.read (Elt F) a3.view f3) fullMod)
      = normed (View.read (Elt F) a2.view f2) (View.read (Elt F) a4.view f4) (View.read (Elt F) a3.view f3) := by rw [l2, l3, l4]
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (covered _)).trans ?_
    refine (View.canon_unit_zero (Val := Elt F) zero2 _ _).trans ?_
    rw [← l5, ← en]
    refine congrArg (fun h => product h (View.ld (View.read (Elt F) a5.view f5) fullCols)) ?_
    refine (View.readAt_eq_ld _ _ _).trans ?_
    funext y
    exact View.read_writes_cons_emb _ _ (keptRows i) _ [] y
  iexists _
  isplitr
  swap
  · iexists _; isplitr
    swap; · iexact H7
    ipureintro; rfl
  ipureintro
  constructor
  · rw [← en]
    exact fun y => View.read_writes_cons_emb _ _ (keptRows i) _ [] y
  · exact fun y hy => View.read_writes_cons_miss _ _ ⟨keptRows i, _⟩ [] y hy

set_option maxHeartbeats 1000000 in
/-- A later point: the kept rows are multiplied. -/
theorem later_point (c : Dev nD) (E : Set ℕ) (i : grid0.Coords) (hi : ¬ k0_cond1 i = 1#1)
    (a2 : Memref sig .tc .vmem S1024x1024 .f32) (h2 : a2.IsWhole) (a3 : Memref sig .tc .vmem S1x1x3072 .f32) (h3 : a3.IsWhole)
    (a4 : Memref sig .tc .vmem S1x1024 .f32) (h4 : a4.IsWhole) (a5 : Memref sig .tc .vmem S1024x1280 .bf16) (h5 : a5.IsWhole)
    (a6 : Memref sig .tc .vmem S1024x1280 .f32) (h6 : a6.IsWhole) (a7 : Memref sig .tc .vmem S4096x1024 .bf16) (h7 : a7.IsWhole)
    (w : Vec F S1024x1280 .bf16) (d : Vec F S4096x1024 .bf16)
    (K : PUnit → sProp 𝕄) :
    iprop(owns (c : Thread nD τ) a5 fullShare w ∗ (∃ e, owns (c : Thread nD τ) a6 fullShare e) ∗ owns (c : Thread nD τ) a7 fullShare d
        ∗ (iprop(owns (c : Thread nD τ) a5 fullShare w
            ∗ owns (c : Thread nD τ) a6 fullShare (product (View.ld d (keptRows i)) w)
            ∗ owns (c : Thread nD τ) a7 fullShare d) -∗ K ⟨⟩))
      ⊢ wp frame (wpE (defs₀ (F := F)) Variants.none c none) E (cc0__in_kernel i a2 h2 a3 h3 a4 h4 a5 h5 a6 h6 a7 h7) K := by
  unfold cc0__in_kernel
  unfold owns
  iintro ⟨⟨%f5, %e5, H5⟩, ⟨%d6, %f6, -, H6⟩, ⟨%f7, %e7, H7⟩, Hk⟩
  subst e5 e7
  sl_exec (disch := sl_exact hi)
  sl_step
  have l5 : View.ld (View.read (Elt F) a5.view f5) fullCols = View.read (Elt F) a5.view f5 := View.ld_unit_zero (Val := Elt F) zero2 _ _
  iapply Hk
  isplitl [H5]
  · iexists f5; isplitr; · ipureintro; rfl
    iexact H5
  isplitl [H6]
  · iexists _; isplitr
    swap; · iexact H6
    ipureintro
    refine (View.read_writes_eq_canon _ _ _ (covered _)).trans ?_
    rw [← l5]
    exact View.canon_unit_zero (Val := Elt F) zero2 _ _
  iexists f7; isplitr; · ipureintro; rfl
  iexact H7

variable (m : (ℓ : Loc nD τ sig) → Buf (Elt F) ℓ) (ρ : Dev nD → PrngReg)

/-- The normed rows point `s` keeps. -/
def kept (c : Dev nD) (s : Fin cfg0.N) : FVec F S1024x1024 .bf16 := normed (iblk m c 0 s) (iblk m c 2 s) (iblk m c 1 s)

/-- The point of the first column with `t`'s rows. -/
def source (t : Fin cfg0.N) : Fin cfg0.N := ⟨t.val % 4, by have := N_0; show t.val % 4 < grid0.N; omega⟩

/-- The rows the points before the `n`-th kept are there. -/
def keeps (c : Dev nD) (n : ℕ) (X : Vec F S4096x1024 .bf16) : Prop :=
  ∀ s : Fin cfg0.N, s.val < n → s.val < 4 → ∀ y : S1024x1024.Idx, X ((keptRows (grid0.coords s)).emb y) = kept m c s y

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => product (kept m c (source t)) (iblk m c 3 t)
  Φ t := iprop((∃ X : Vec F S4096x1024 .bf16, ⌜keeps m c t.val X⌝ ∗ owns (c : Thread nD τ) (Memref.whole cc0_scratch0) fullShare X)
    ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = product (kept m c (source t)) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The rows' block of a point, and which points are of the first column. -/
theorem coords_rows : ∀ t : Fin cfg0.N, (grid0.coords t 1).val = t.val % 4 := by decide +kernel
theorem first_iff : ∀ t : Fin cfg0.N, k0_cond1 (grid0.coords t) = 1#1 ↔ t.val < 4 := by decide +kernel

theorem rows_emb (t : Fin cfg0.N) (y : S1024x1024.Idx) (a : Fin 2) :
    ((keptRows (grid0.coords t)).emb y a).val = (![1024 * (t.val % 4), 0] : Fin 2 → ℕ) a + (y a).val := by
  refine (show _ = k0_off2 (grid0.coords t) a + 1 * (y a).val from rfl).trans ?_
  rw [k0_off2_eq, coords_rows, Nat.one_mul]

theorem rows_apart (s t : Fin cfg0.N) (h : s.val % 4 ≠ t.val % 4) (y : S1024x1024.Idx) :
    (keptRows (grid0.coords s)).emb y ∉ (keptRows (grid0.coords t)).set := by
  intro hm
  obtain ⟨z, -, e⟩ := Finset.mem_map.mp (by rw [← Rect.map_emb_univ] at hm; exact hm)
  have e0 := congrArg (fun x : S4096x1024.Idx => (x 0).val) e
  dsimp only at e0
  rw [rows_emb, rows_emb] at e0
  have hy : (y 0).val < 1024 := (y 0).isLt
  have hz : ((z : S1024x1024.Idx) 0).val < 1024 := (z 0).isLt
  have e1 : 1024 * (t.val % 4) + ((z : S1024x1024.Idx) 0).val = 1024 * (s.val % 4) + (y 0).val := e0
  omega

theorem rows_source (t : Fin cfg0.N) (y : S1024x1024.Idx) : (keptRows (grid0.coords t)).emb y = (keptRows (grid0.coords (source t))).emb y := by
  funext a
  refine Fin.ext ?_
  rw [rows_emb, rows_emb, show (source t).val = t.val % 4 from rfl, Nat.mod_mod]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem source_first (t : Fin cfg0.N) (h : t.val < 4) : source t = t := Fin.ext (Nat.mod_eq_of_lt h)

/-- A first-column point keeps its rows and leaves the others. -/
theorem keeps_first (c : Dev nD) (t : Fin cfg0.N) (h : t.val < 4) (X Y : Vec F S4096x1024 .bf16) (hX : keeps m c t.val X)
    (hY : (∀ y, Y ((keptRows (grid0.coords t)).emb y) = kept m c t y) ∧ ∀ y, y ∉ (keptRows (grid0.coords t)).set → Y y = X y) :
    keeps m c (t.val + 1) Y := by
  intro s hs hs4 y
  by_cases e : s = t
  · subst e; exact hY.1 y
  · have hne : s.val ≠ t.val := fun he => e (Fin.ext he)
    rw [hY.2 _ (rows_apart s t (by omega) y)]
    exact hX s (by omega) hs4 y

theorem keeps_later (c : Dev nD) (t : Fin cfg0.N) (h : ¬ t.val < 4) (X : Vec F S4096x1024 .bf16) (hX : keeps m c t.val X) :
    keeps m c (t.val + 1) X := fun s _ hs4 y => hX s (by omega) hs4 y

theorem keeps_read (c : Dev nD) (t : Fin cfg0.N) (h : ¬ t.val < 4) (X : Vec F S4096x1024 .bf16) (hX : keeps m c t.val X) :
    View.ld X (keptRows (grid0.coords t)) = kept m c (source t) := by
  funext y
  refine (congrArg X (rows_source t y)).trans (hX (source t) ?_ ?_ y) <;> show t.val % 4 < _ <;> omega

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  dsimp only [dats, Fin.val_castSucc, Fin.val_succ]
  by_cases h : t.val < 4
  · iintro ⟨⟨⟨%X, %hX, HS⟩, Hg⟩, Ho, ⟨%d0, H0⟩, ⟨%d1, H1⟩, ⟨%d2, H2⟩, ⟨%d3, H3⟩, ⟨%d4, H4⟩⟩
    iapply (first_point c Set.univ (grid0.coords t) ((first_iff t).mpr h) _ _ _ _ _ _ _ _ _ _ _ _
      (iblk m c 0 t) (iblk m c 1 t) (iblk m c 2 t) (iblk m c 3 t) X _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, ⟨%Y, %hY, HS⟩⟩
    isplitl [HS Hg]
    · isplitl [HS]
      · iexists Y; isplitr
        · ipureintro; exact keeps_first m c t h X Y hX hY
        iexact HS
      iexact Hg
    isplitl [Ho]; · iexact Ho
    isplitl [H0]; · iexact H0
    isplitl [H1]; · iexact H1
    isplitl [H2]; · iexact H2
    isplitl [H3]; · iexact H3
    rw [source_first t h]
    iexact H4
  · iintro ⟨⟨⟨%X, %hX, HS⟩, Hg⟩, Ho, ⟨%d0, H0⟩, ⟨%d1, H1⟩, ⟨%d2, H2⟩, ⟨%d3, H3⟩, ⟨%d4, H4⟩⟩
    rw [← keeps_read m c t h X hX]
    iapply (later_point c Set.univ (grid0.coords t) (fun e => h ((first_iff t).mp e)) _ _ _ _ _ _ _ _ _ _ _ _
      (iblk m c 3 t) X _)
    isplitl [H3]; · iexact H3
    isplitl [H4]; · iexists _; iexact H4
    isplitl [HS]; · iexact HS
    iintro ⟨H3, H4, HS⟩
    isplitl [HS Hg]
    · isplitl [HS]
      · iexists X; isplitr
        · ipureintro; exact keeps_later m c t h X hX
        iexact HS
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is kept; -/
theorem enter (c : Dev nD) : Pipeline.ΦA (Val := Elt F) spec0 c ⊢ (dats m 0 c).Φ 0 := by
  unfold Pipeline.ΦA
  rw [scopedRest0_eq]
  dsimp only [dats]
  simp only [owns_whole]
  iintro ⟨⟨%f, H⟩, Hg⟩
  isplitl [H]
  · iexists f; isplitr
    · ipureintro; exact fun s hs => absurd hs (Nat.not_lt_zero _)
    iexact H
  iexact Hg

/-- after the last, what is kept is given up. -/
theorem leave (c : Dev nD) : (dats m 0 c).Φ (Fin.last cfg0.N) ⊢ Pipeline.ΦA (Val := Elt F) spec0 c := by
  unfold Pipeline.ΦA
  rw [scopedRest0_eq]
  dsimp only [dats]
  simp only [owns_whole]
  iintro ⟨⟨%X, -, H⟩, Hg⟩
  isplitl [H]
  · iexists X
    iexact H
  iexact Hg

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  Idealize.ShloMosaic.θ_run_and (frame_of m ρ (dats m) (A_eq m) (run_main m ρ)) ((θ_run defs _ _).mono (fun _ h => h.2) (run_main_quiescent m ρ))

/-- The result array ends at what the points flushed. -/
theorem run_blocks : θ_run defs (onTc (τ := τ) (main (F := F))) ⟨m, fun _ => 0, ρ⟩ (fun r => ∀ c : Dev nD,
      r.2.mem ((c.tc : Thread nD τ).loc main_v21) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 4,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel2Ideal.Hand

end
-- ==== Proof.Scalars.lean ====
/-
  Facts about single extended reals that both sides of the calls use: the two spellings of the logistic function.
-/
module

public import Idealize.ShloMosaic.Lib.Pointwise

@[expose] public section

noncomputable section

namespace Cert.Layer

open Idealize.ShloMosaic

/-- The f32 pattern of one half. -/
theorem half_word : Ideal.ofBits .f32 0x3F000000#32 = (((1 : ℝ) / 2 : ℝ) : EReal) := by
  simp [Ideal.ofBits, Ideal.ieee, -EReal.coe_mul]; norm_num

theorem real_sigmoid (r : ℝ) : 1 / 2 * Real.tanh (1 / 2 * r) + 1 / 2 = (1 + Real.exp (-r))⁻¹ := by
  have h : Real.exp (-r) = Real.exp (-(1 / 2 * r)) * Real.exp (-(1 / 2 * r)) := by
    rw [← Real.exp_add]; congr 1; ring
  have h1 : Real.exp (1 / 2 * r) * Real.exp (-(1 / 2 * r)) = 1 := by
    rw [← Real.exp_add]; simp
  have hp : 0 < Real.exp (1 / 2 * r) := Real.exp_pos _
  have hn : 0 < Real.exp (-(1 / 2 * r)) := Real.exp_pos _
  rw [Real.tanh_eq_sinh_div_cosh, Real.sinh_eq, Real.cosh_eq, h]
  generalize Real.exp (1 / 2 * r) = a at *
  generalize Real.exp (-(1 / 2 * r)) = b at *
  have hb : b = a⁻¹ := by field_simp at h1 ⊢; linarith
  subst hb
  field_simp
  ring

/-- Half the hyperbolic tangent of half the argument, plus a half, is the logistic function. -/
theorem sigmoid_eq (x : EReal) :
    Ideal.ofBits .f32 0x3F000000#32 * Ideal.tanh (Ideal.ofBits .f32 0x3F000000#32 * x) + Ideal.ofBits .f32 0x3F000000#32
      = Ideal.logistic x := by
  rw [half_word]
  induction x using EReal.rec with
  | bot =>
    rw [EReal.coe_mul_bot_of_pos (by norm_num), Ideal.tanh_bot, Ideal.logistic_bot,
      show (-1 : EReal) = ((-1 : ℝ) : EReal) by simp, ← EReal.coe_mul, ← EReal.coe_add]
    norm_num
  | top =>
    rw [EReal.coe_mul_top_of_pos (by norm_num), Ideal.tanh_top, Ideal.logistic_top,
      show (1 : EReal) = ((1 : ℝ) : EReal) by norm_cast, ← EReal.coe_mul, ← EReal.coe_add]
    norm_num
  | coe r =>
    rw [← EReal.coe_mul, Ideal.tanh_coe, ← EReal.coe_mul, ← EReal.coe_add, Ideal.logistic_coe, real_sigmoid]

/-- The quotient `1 / (1 + e⁻ˣ)` is the logistic function, by its definition. -/
theorem logistic_quot (x : EReal) : Ideal.div 1 (1 + Ideal.exp (-x)) = Ideal.logistic x := rfl

end Cert.Layer
-- ==== Proof.MergeSpec.lean ====
/-
  The output call of the layer as mathematics: the gated sum of the three branches, the output projection, its
  normalisation and the residual, at one element, over plain functions of the coordinates.
-/
module

public import Idealize.ShloMosaic.Lib.Pointwise
public import proofs.«01_k».proof.Proof.Scalars

@[expose] public section

noncomputable section

namespace Cert.Layer

open Idealize.ShloMosaic

/-- The word of 1024 and the word of the small constant under the root, as both programs print them. -/
abbrev width : EReal := Ideal.ofBits .f32 0x44800000#32
abbrev eps : EReal := Ideal.ofBits .f32 0x358637BD#32

/-- A row over its root mean square, times a gain. -/
def rms (x g : Fin 1024 → EReal) (k : Fin 1024) : EReal :=
  x k * Ideal.rsqrt (Ideal.div (∑ l, x l * x l) width + eps) * g k

/-- The modulated norm: `rms` times one plus a scale, plus a shift. -/
def hidden (x g sc sh : Fin 1024 → EReal) (k : Fin 1024) : EReal := rms x g k * (1 + sc k) + sh k

/-- One branch's gate at column `j`. -/
def gate (h : Fin 1024 → EReal) (w : Fin 1024 → Fin 1024 → EReal) (b : Fin 1024 → EReal) (j : Fin 1024) : EReal :=
  Ideal.logistic ((∑ k, h k * w k j) + b j)

/-- A row times a matrix. -/
def vecMat (x : Fin 1024 → EReal) (w : Fin 1024 → Fin 1024 → EReal) (j : Fin 1024) : EReal := ∑ k, x k * w k j

/-- The three gated branches summed. -/
def merged (h : Fin 1024 → EReal) (z : Fin 3 → Fin 1024 → EReal) (w : Fin 3 → Fin 1024 → Fin 1024 → EReal)
    (b : Fin 3 → Fin 1024 → EReal) (j : Fin 1024) : EReal :=
  gate h (w 0) (b 0) j * z 0 j + gate h (w 1) (b 1) j * z 1 j + gate h (w 2) (b 2) j * z 2 j

/-- The layer's output row. -/
def output (x g sc sh gt gpost : Fin 1024 → EReal) (z : Fin 3 → Fin 1024 → EReal)
    (w : Fin 3 → Fin 1024 → Fin 1024 → EReal) (b : Fin 3 → Fin 1024 → EReal) (wo : Fin 1024 → Fin 1024 → EReal)
    (j : Fin 1024) : EReal :=
  x j + gt j * rms (vecMat (merged (hidden x g sc sh) z w b) wo) gpost j

/-- The column order of the attention heads by group, column `64 (4 g + k) + d` from `64 (4 k + g) + d`; its own inverse. -/
def bySwap (k : Fin 1024) : Fin 1024 := ⟨k.val / 64 % 4 * 256 + k.val / 256 * 64 + k.val % 64, by omega⟩

theorem bySwap_bySwap : ∀ k : Fin 1024, bySwap (bySwap k) = k := by decide +kernel

/-- A contraction over the reordered columns against the reordered rows is the plain contraction. -/
theorem sum_bySwap (f : Fin 1024 → EReal) : ∑ k, f (bySwap k) = ∑ k, f k :=
  Equiv.sum_comp (Function.Involutive.toPerm bySwap bySwap_bySwap) f

/-- Row `r` of a [16, 256, 1024] array, its two leading axes merged. -/
abbrev rows (A : (⟨3, ![16, 256, 1024]⟩ : Shape).Idx → EReal) (r : Fin 4096) (k : Fin 1024) : EReal :=
  A (ix3 ⟨r.val / 256, by omega⟩ ⟨r.val % 256, by omega⟩ k)

/-- The `n`-th 1024 columns of 3072. -/
def third : Fin 3 → Fin 1024 → Fin 3072
  | 0, k => ⟨k.val, by omega⟩
  | 1, k => ⟨1024 + k.val, by omega⟩
  | 2, k => ⟨2048 + k.val, by omega⟩

/-- The output call's result at row `r`, column `j`, of its arguments, the attention branch's columns by group. -/
def outputCall (x ro lo ao : (⟨3, ![16, 256, 1024]⟩ : Shape).Idx → EReal) (md : (⟨2, ![8, 3072]⟩ : Shape).Idx → EReal)
    (g gpost : (⟨1, ![1024]⟩ : Shape).Idx → EReal) (wm : (⟨2, ![1024, 3072]⟩ : Shape).Idx → EReal)
    (bm : (⟨1, ![3072]⟩ : Shape).Idx → EReal) (wb : (⟨3, ![3, 1024, 1024]⟩ : Shape).Idx → EReal)
    (wo : (⟨2, ![1024, 1024]⟩ : Shape).Idx → EReal) (r : Fin 4096) (j : Fin 1024) : EReal :=
  output (rows x r) (fun k => g (ix1 k)) (fun k => md (ix2 0 (third 1 k))) (fun k => md (ix2 0 (third 0 k)))
    (fun k => md (ix2 0 (third 2 k))) (fun k => gpost (ix1 k))
    (fun n => match n with
      | 0 => vecMat (rows ro r) fun k j => wb (ix3 0 k j)
      | 1 => vecMat (rows lo r) fun k j => wb (ix3 1 k j)
      | 2 => vecMat (fun k => rows ao r (bySwap k)) fun k j => wb (ix3 2 k j))
    (fun n k j => wm (ix2 k (third n j))) (fun n k => bm (ix1 (third n k))) (fun k j => wo (ix2 k j)) j

end Cert.Layer
-- ==== Proof.InProjSpec.lean ====
/-
  The input projection as mathematics: a row's modulated norm against a column of the weights, the columns in the printed order.
-/
module

public import proofs.«01_k».proof.Proof.MergeSpec

@[expose] public section

noncomputable section

namespace Cert.Layer

open Idealize.ShloMosaic

/-- The weights' column under printed column `q`: the two attention parts by group come first, then the other parts. -/
def colNat (q : ℕ) : ℕ :=
  if q < 1024 then 5120 + (q / 64 % 4 * 256 + q / 256 * 64 + q % 64)
  else if q < 2048 then 6656 + ((q - 1024) / 64 % 4 * 256 + (q - 1024) / 256 * 64 + (q - 1024) % 64)
  else if q < 6144 then q - 1024
  else if q < 7168 then q - 6144
  else q - 1024

theorem colNat_lt (q : ℕ) (h : q < 7680) : colNat q < 7680 := by
  unfold colNat
  split_ifs <;> omega

def col (q : Fin 7680) : Fin 7680 := ⟨colNat q.val, colNat_lt q.val q.isLt⟩

/-- The projection of row `r` at printed column `q`. -/
def projCall (x : (⟨3, ![16, 256, 1024]⟩ : Shape).Idx → EReal) (md : (⟨2, ![8, 3072]⟩ : Shape).Idx → EReal)
    (g : (⟨1, ![1024]⟩ : Shape).Idx → EReal) (w : (⟨2, ![1024, 7680]⟩ : Shape).Idx → EReal) (r : Fin 4096) (q : Fin 7680) : EReal :=
  ∑ k, hidden (rows x r) (fun k => g (ix1 k)) (fun k => md (ix2 0 (third 1 k))) (fun k => md (ix2 0 (third 0 k))) k * w (ix2 k (col q))

end Cert.Layer
-- ==== Proof.InProjKernel.lean ====
/-
  What the input projection's kernel leaves: its result array at an index is `Cert.Layer.projCall` of the arguments.
-/
module

public import proofs.«01_k».proof.Proof.InProjRun
public import proofs.«01_k».proof.Proof.InProjSpec
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel2Ideal.Hand
open Cert.Kernel2Ideal Cert.Kernel2Ideal.Gen Cert.Layer

variable (m : (ℓ : Loc nD τ sig) → Buf (Elt Ideal) ℓ)

/-- The windows' blocks. -/
theorem idx : ∀ t : Fin cfg0.N, win0_0.index t = ![if t.val < 4 then t.val else 3, 0] ∧ win0_1.index t = ![0, 0, 0] ∧ win0_2.index t = ![0, 0]
    ∧ win0_3.index t = ![0, t.val / 4] ∧ win0_4.index t = ![t.val % 4, t.val / 4] := by decide +kernel

/-- A column read at an index whose value is known. -/
theorem at_col (A : (⟨2, ![1024, 7680]⟩ : Shape).Idx → EReal) (k k' : Fin 1024) (a q : Fin 7680) (hk : k.val = k'.val)
    (h : a.val = colNat q.val) : A (ix2 k a) = A (ix2 k' (col q)) := by
  obtain rfl : k = k' := Fin.ext hk
  obtain rfl : a = col q := Fin.ext h
  rfl

set_option maxHeartbeats 1000000 in
/-- The weights as the call's host lines leave them: the columns in the printed order. -/
theorem V17 (c : Dev nD) (k : Fin 1024) (q : Fin 7680) : (V m c main_v17 (ix2 k q) : EReal) =
    (m ((c : Thread nD τ).loc main_arg3) (ix2 k (col q)) : EReal) := by
  unfold V
  after_reads_at
  have hq := q.isLt
  by_cases h0 : q.val < 1024
  · rw [dif_pos h0]
    after_reads_at
    refine at_col _ _ _ _ _ ?_ ?_ <;> simp only [colNat] <;> (try split_ifs) <;> omega
  by_cases h1 : q.val - 1024 < 1024
  · rw [dif_neg h0, dif_pos h1]
    after_reads_at
    refine at_col _ _ _ _ _ ?_ ?_ <;> simp only [colNat] <;> (try split_ifs) <;> omega
  by_cases h2 : q.val - 1024 - 1024 < 1024
  · rw [dif_neg h0, dif_neg h1, dif_pos h2]
    after_reads_at
    refine at_col _ _ _ _ _ ?_ ?_ <;> simp only [colNat] <;> (try split_ifs) <;> omega
  by_cases h3 : q.val - 1024 - 1024 - 1024 < 1024
  · rw [dif_neg h0, dif_neg h1, dif_neg h2, dif_pos h3]
    after_reads_at
    refine at_col _ _ _ _ _ ?_ ?_ <;> simp only [colNat] <;> (try split_ifs) <;> omega
  by_cases h4 : q.val - 1024 - 1024 - 1024 - 1024 < 1024
  · rw [dif_neg h0, dif_neg h1, dif_neg h2, dif_neg h3, dif_pos h4]
    after_reads_at
    refine at_col _ _ _ _ _ ?_ ?_ <;> simp only [colNat] <;> (try split_ifs) <;> omega
  by_cases h5 : q.val - 1024 - 1024 - 1024 - 1024 - 1024 < 1024
  · rw [dif_neg h0, dif_neg h1, dif_neg h2, dif_neg h3, dif_neg h4, dif_pos h5]
    after_reads_at
    refine at_col _ _ _ _ _ ?_ ?_ <;> simp only [colNat] <;> (try split_ifs) <;> omega
  by_cases h6 : q.val - 1024 - 1024 - 1024 - 1024 - 1024 - 1024 < 512
  · rw [dif_neg h0, dif_neg h1, dif_neg h2, dif_neg h3, dif_neg h4, dif_neg h5, dif_pos h6]
    after_reads_at
    refine at_col _ _ _ _ _ ?_ ?_ <;> simp only [colNat] <;> (try split_ifs) <;> omega
  by_cases h7 : q.val - 1024 - 1024 - 1024 - 1024 - 1024 - 1024 - 512 < 512
  · rw [dif_neg h0, dif_neg h1, dif_neg h2, dif_neg h3, dif_neg h4, dif_neg h5, dif_neg h6, dif_pos h7]
    after_reads_at
    refine at_col _ _ _ _ _ ?_ ?_ <;> simp only [colNat] <;> (try split_ifs) <;> omega
  by_cases h8 : q.val - 1024 - 1024 - 1024 - 1024 - 1024 - 1024 - 512 - 512 < 256
  · rw [dif_neg h0, dif_neg h1, dif_neg h2, dif_neg h3, dif_neg h4, dif_neg h5, dif_neg h6, dif_neg h7, dif_pos h8]
    after_reads_at
    refine at_col _ _ _ _ _ ?_ ?_ <;> simp only [colNat] <;> (try split_ifs) <;> omega
  rw [dif_neg h0, dif_neg h1, dif_neg h2, dif_neg h3, dif_neg h4, dif_neg h5, dif_neg h6, dif_neg h7, dif_neg h8]
  after_reads_at
  refine at_col _ _ _ _ _ ?_ ?_ <;> simp only [colNat] <;> (try split_ifs) <;> omega

theorem blk0 (c : Dev nD) (t : Fin cfg0.N) (p q : Fin 1024) : (iblk m c 0 (source t) (ix2 p q) : EReal) =
    rows (m ((c : Thread nD τ).loc main_arg0)) ⟨1024 * (t.val % 4) + p.val, by omega⟩ q := by
  have e : (if (source t).val < 4 then (source t).val else 3) = t.val % 4 := if_pos (by show t.val % 4 < 4; omega)
  have i := (idx (source t)).1
  rw [e] at i
  blk_ext! [iblk, V, i]
theorem blk1 (c : Dev nD) (t : Fin cfg0.N) (q : Fin 3072) : (iblk m c 1 t (ix3 0 0 q) : EReal) =
    m ((c : Thread nD τ).loc main_arg1) (ix2 0 q) := by
  blk_ext! [iblk, V, idx t]
theorem blk2 (c : Dev nD) (t : Fin cfg0.N) (q : Fin 1024) : (iblk m c 2 t (ix2 0 q) : EReal) =
    m ((c : Thread nD τ).loc main_arg2) (ix1 q) := by
  blk_ext! [iblk, V, idx t]
theorem blk3 (c : Dev nD) (t : Fin cfg0.N) (k : Fin 1024) (q : Fin 1280) : (iblk m c 3 t (ix2 k q) : EReal) =
    m ((c : Thread nD τ).loc main_arg3) (ix2 k (col ⟨1280 * (t.val / 4) + q.val, by have := N_0; have : t.val < grid0.N := t.isLt; omega⟩)) := by
  refine Eq.trans ?_ (V17 m c k _)
  blk_ext [iblk, idx t]

/-- The kept rows at an element. -/
theorem kept_eq (c : Dev nD) (t : Fin cfg0.N) (p k : Fin 1024) : (kept m c (source t) (ix2 p k) : EReal) =
    hidden (rows (m ((c : Thread nD τ).loc main_arg0)) ⟨1024 * (t.val % 4) + p.val, by omega⟩)
      (fun k => m ((c : Thread nD τ).loc main_arg2) (ix1 k)) (fun k => m ((c : Thread nD τ).loc main_arg1) (ix2 0 (third 1 k)))
      (fun k => m ((c : Thread nD τ).loc main_arg1) (ix2 0 (third 0 k))) k := by
  unfold kept normed
  pointwise
  simp only [blk0, blk1, blk2]
  rfl

/-- The result array. -/
theorem final (c : Dev nD) :
    (dats m 0 c).arrAt 4 cfg0.N = fun i : S4096x7680.Idx => projCall (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 4 _ (by decide +kernel) fun t hf y => ?_
  blk_simp
  rw [after0_4]
  idx_vars y
  have e : (((cfg0.win 4).blk t).view.emb (ix2 y0 y1) : S4096x7680.Idx) = ix2 (⟨1024 * (t.val % 4) + y0.val, by omega⟩ : Fin 4096)
      (⟨1280 * (t.val / 4) + y1.val, by have := N_0; have : t.val < grid0.N := t.isLt; omega⟩ : Fin 7680) := by
    blk_ext [idx t]
  have e0 : ((View.whole main_v21).slice (win0_4.rect t)).emb (ix2 y0 y1) = (ix2 (⟨1024 * (t.val % 4) + y0.val, by omega⟩ : Fin 4096)
      (⟨1280 * (t.val / 4) + y1.val, by have := N_0; have : t.val < grid0.N := t.isLt; omega⟩ : Fin 7680) : S4096x7680.Idx) := e
  rw [e0]
  unfold product
  pointwise
  simp only [kept_eq, blk3]
  rfl

end Cert.Kernel2Ideal.Hand
-- ==== Proof.InProjRef.lean ====
/-
  The input projection's reference: its result at an index is `Cert.Layer.projCall` of the arguments.
-/
module

public import proofs.«01_k».proof.Proof.Gen.Reference2Ideal.Run
public import proofs.«01_k».proof.Proof.InProjSpec
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Reference2Ideal.Hand
open Cert.Reference2Ideal Cert.Layer

variable (m : (ℓ : Loc nD τ sig) → Buf (Elt Ideal) ℓ)

set_option maxHeartbeats 8000000 in
theorem ref_eq (c : Dev nD) (r : Fin 4096) (q : Fin 7680) : (Value.res_main_v43 (F := Ideal) m c (ix2 r q) : EReal) =
    projCall (m ((c.tc : Thread nD τ).loc main_arg0)) (m ((c.tc : Thread nD τ).loc main_arg1)) (m ((c.tc : Thread nD τ).loc main_arg2))
      (m ((c.tc : Thread nD τ).loc main_arg3)) r q := by
  unfold Value.res_main_v43
  generalize hD : (Host.dotGeneral (F := Ideal) (φ₁ := .f32) (φ₂ := .f32) dot_S4096x1024_S1024x7680_S4096x7680_1_0_0_1_n_n none _ _) = D
  have e : ∀ a : Fin 7680, (D (ix2 r a) : EReal) = ∑ k, hidden (rows (m ((c.tc : Thread nD τ).loc main_arg0)) r)
      (fun k => m ((c.tc : Thread nD τ).loc main_arg2) (ix1 k)) (fun k => m ((c.tc : Thread nD τ).loc main_arg1) (ix2 0 (third 1 k)))
      (fun k => m ((c.tc : Thread nD τ).loc main_arg1) (ix2 0 (third 0 k))) k * m ((c.tc : Thread nD τ).loc main_arg3) (ix2 k a) := by
    intro a
    rw [← hD]
    clean_types
    pointwise
    rfl
  clear hD
  clean_types
  pointwise
  refine Eq.trans ?_ (e (col q))
  have hq := q.isLt
  split_ifs <;> refine congrArg (fun a => D (ix2 r a)) (Fin.ext ?_) <;> simp only [col, colNat] <;> (try split_ifs) <;> omega

end Cert.Reference2Ideal.Hand
-- ==== Proof.InProj.lean ====
/-
  The input projection's claims.
-/
module

public import proofs.«01_k».proof.Defs
public import proofs.«01_k».proof.Proof.Gen.Kernel2.Frame
public import proofs.«01_k».proof.Proof.InProjKernel
public import proofs.«01_k».proof.Proof.InProjRef
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem

namespace Cert.Proof.InProj

variable {F : FTy → Type} [FloatOps F]

/-- The two prints of the kernel are one text, so the one run serves both. -/
theorem bodies : (Cert.Kernel2Ideal.defs₀ (F := F)) = (Cert.Kernel2.defs₀ (F := F)) := by
  unfold Cert.Kernel2Ideal.defs₀ Cert.Kernel2.defs₀
  refine congrArg Defs.onTc ?_
  funext l p
  match l, p with
  | 0, (t, s) => rfl
  | ⟨_ + 1, h⟩, _ => exact absurd h (Nat.not_lt.2 (Nat.le_add_left _ _))

theorem tables : (Cert.Kernel2Ideal.defs (F := F)) = (Cert.Kernel2.defs (F := F)) :=
  congrArg (Pipeline.defs Cert.Kernel2.pcfgs) bodies

end Cert.Proof.InProj

namespace Cert.Proof

theorem frame_kernel2 : Cert.quiescent_Kernel2 := fun m ρ _ => by
  rw [← InProj.tables]
  exact Cert.Kernel2Ideal.Hand.frame (F := Bits) m ρ

theorem frame_ideal2 : Cert.quiescent_Kernel2Ideal := fun m ρ _ => Cert.Kernel2Ideal.Hand.frame m ρ

theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- Both programs leave the projection of the same arguments. -/
theorem algebraic2 : Cert.algebraic_Kernel2Ideal_Reference2Ideal := by
  intro m g m' g' _ hargs
  refine ⟨fun c => fun i : Cert.Kernel2Ideal.S4096x7680.Idx => Cert.Layer.projCall (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (i 0) (i 1), ?_, ?_⟩
  · refine (θ_run _ _ _).mono (fun r h c => ?_) (Cert.Kernel2Ideal.Hand.run_blocks m g)
    exact ⟨(h c).1.trans (Cert.Kernel2Ideal.Hand.final m c), (h c).2⟩
  · refine (θ_run _ _ _).mono (fun r h c => ⟨(h c).1.trans ?_, (h c).2⟩) (Cert.Reference2Ideal.Value.run (F := Ideal) m' g')
    obtain ⟨e0, e1, e2, e3⟩ := hargs c
    funext i
    idx_vars i
    refine (Cert.Reference2Ideal.Hand.ref_eq m' c i0 i1).trans ?_
    rw [e0, e1, e2, e3]

end Cert.Proof

end
-- ==== Proof.MergeBlocks.lean ====
/-
  The output call's blocks: what each input window holds at a grid point, at an index, of the arguments.
-/
module

public import proofs.«01_k».proof.Proof.Gen.Kernel3Ideal.Frame
public import proofs.«01_k».proof.Proof.MergeSpec
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel3Ideal.Hand
open Cert.Kernel3Ideal Cert.Kernel3Ideal.Gen Cert.Layer

variable (m : (ℓ : Loc nD τ sig) → Buf (Elt Ideal) ℓ)

/-- The windows' blocks: five move with the point, the rest stay. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![0, 0] ∧ win0_6.index t = ![0, 0]
    ∧ win0_7.index t = ![0, 0] ∧ win0_8.index t = ![0, 0] ∧ win0_9.index t = ![0, 0, 0] ∧ win0_10.index t = ![0, 0]
    ∧ win0_11.index t = ![t.val, 0] := by decide +kernel

/-- The array's row under row `p` of point `t`'s block. -/
abbrev row (t : Fin cfg0.N) (p : Fin 512) : Fin 4096 := ⟨512 * t.val + p.val, by have : t.val < 8 := t.isLt; omega⟩

/-- The branch weights as the call's host lines leave them: the third branch's rows reordered. -/
theorem V13 (c : Dev nD) (n : Fin 3) (k j : Fin 1024) : (V m c main_v13 (ix3 n k j) : EReal) =
    (m ((c : Thread nD τ).loc main_arg9) (ix3 n (if n = 2 then bySwap k else k) j) : EReal) := by
  unfold V
  after_reads_at
  fin_cases n
  · after_reads_at
  · after_reads_at
  · after_reads_at
    rfl

theorem blk0 (c : Dev nD) (t : Fin cfg0.N) (p : Fin 512) (q : Fin 1024) : (iblk m c 0 t (ix2 p q) : EReal) =
    rows (m ((c : Thread nD τ).loc main_arg0)) (row t p) q := by
  blk_ext! [iblk, V, idx t]
theorem blk1 (c : Dev nD) (t : Fin cfg0.N) (p : Fin 512) (q : Fin 1024) : (iblk m c 1 t (ix2 p q) : EReal) =
    rows (m ((c : Thread nD τ).loc main_arg1)) (row t p) q := by
  blk_ext! [iblk, V, idx t]
theorem blk2 (c : Dev nD) (t : Fin cfg0.N) (p : Fin 512) (q : Fin 1024) : (iblk m c 2 t (ix2 p q) : EReal) =
    rows (m ((c : Thread nD τ).loc main_arg2)) (row t p) q := by
  blk_ext! [iblk, V, idx t]
theorem blk3 (c : Dev nD) (t : Fin cfg0.N) (p : Fin 512) (q : Fin 1024) : (iblk m c 3 t (ix2 p q) : EReal) =
    rows (m ((c : Thread nD τ).loc main_arg3)) (row t p) q := by
  blk_ext! [iblk, V, idx t]
theorem blk4 (c : Dev nD) (t : Fin cfg0.N) (q : Fin 3072) : (iblk m c 4 t (ix3 0 0 q) : EReal) =
    m ((c : Thread nD τ).loc main_arg4) (ix2 0 q) := by
  blk_ext! [iblk, V, idx t]
theorem blk5 (c : Dev nD) (t : Fin cfg0.N) (q : Fin 1024) : (iblk m c 5 t (ix2 0 q) : EReal) =
    m ((c : Thread nD τ).loc main_arg5) (ix1 q) := by
  blk_ext! [iblk, V, idx t]
theorem blk6 (c : Dev nD) (t : Fin cfg0.N) (q : Fin 1024) : (iblk m c 6 t (ix2 0 q) : EReal) =
    m ((c : Thread nD τ).loc main_arg6) (ix1 q) := by
  blk_ext! [iblk, V, idx t]
theorem blk7 (c : Dev nD) (t : Fin cfg0.N) (k : Fin 1024) (q : Fin 3072) : (iblk m c 7 t (ix2 k q) : EReal) =
    m ((c : Thread nD τ).loc main_arg7) (ix2 k q) := by
  blk_ext! [iblk, V, idx t]
theorem blk8 (c : Dev nD) (t : Fin cfg0.N) (q : Fin 3072) : (iblk m c 8 t (ix2 0 q) : EReal) =
    m ((c : Thread nD τ).loc main_arg8) (ix1 q) := by
  blk_ext! [iblk, V, idx t]
theorem blk9 (c : Dev nD) (t : Fin cfg0.N) (n : Fin 3) (k j : Fin 1024) : (iblk m c 9 t (ix3 n k j) : EReal) =
    m ((c : Thread nD τ).loc main_arg9) (ix3 n (if n = 2 then bySwap k else k) j) := by
  refine Eq.trans ?_ (V13 m c n k j)
  blk_ext [iblk, idx t]
theorem blk10 (c : Dev nD) (t : Fin cfg0.N) (k q : Fin 1024) : (iblk m c 10 t (ix2 k q) : EReal) =
    m ((c : Thread nD τ).loc main_arg10) (ix2 k q) := by
  blk_ext! [iblk, V, idx t]

end Cert.Kernel3Ideal.Hand
-- ==== Proof.MergeKernel.lean ====
/-
  What the output call's kernel leaves: its result array at an index is `Cert.Layer.output` of the arguments.
-/
module

public import proofs.«01_k».proof.Proof.Gen.Kernel3Ideal.Value
public import proofs.«01_k».proof.Proof.MergeBlocks
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Hand
open Cert.Kernel3Ideal Cert.Kernel3Ideal.Gen Cert.Layer

variable (m : (ℓ : Loc nD τ sig) → Buf (Elt Ideal) ℓ)

/-- The modulated norm of row `r` of the arguments. -/
def hid (c : Dev nD) (r : Fin 4096) : Fin 1024 → EReal :=
  hidden (rows (m ((c : Thread nD τ).loc main_arg0)) r)
    (fun k => m ((c : Thread nD τ).loc main_arg5) (ix1 k))
    (fun k => m ((c : Thread nD τ).loc main_arg4) (ix2 0 (third 1 k)))
    (fun k => m ((c : Thread nD τ).loc main_arg4) (ix2 0 (third 0 k)))

/-- The gated row before the output projection, of the blocks. -/
theorem hidden_eq (c : Dev nD) (t : Fin cfg0.N) (p : Fin 512) (k : Fin 1024) :
    (k0_pay3 (iblk m c 0 t) (iblk m c 4 t) (iblk m c 5 t) (ix2 p k) : EReal) = hid m c (row t p) k := by
  pointwise [k0_pay3, k0_pay2, k0_pay1]
  simp only [blk0, blk4, blk5]
  rfl

/-- The same rows under the name the run gives them where the later gates read them. -/
theorem hidden_named (c : Dev nD) (t : Fin cfg0.N) (p : Fin 512) (k : Fin 1024) :
    (k0_pay10 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 p k) : EReal) = hid m c (row t p) k := by
  pointwise [k0_pay10, k0_pay3, k0_pay2, k0_pay1]
  simp only [blk0, blk4, blk5]
  rfl

/-- The attention branch against rows in the block's order is the reordered columns against the rows as given. -/
theorem swapped (c : Dev nD) (r : Fin 4096) (j : Fin 1024) :
    (∑ k, rows (m ((c : Thread nD τ).loc main_arg3)) r k * m ((c : Thread nD τ).loc main_arg9) (ix3 2 (bySwap k) j) : EReal)
      = ∑ k, rows (m ((c : Thread nD τ).loc main_arg3)) r (bySwap k) * m ((c : Thread nD τ).loc main_arg9) (ix3 2 k j) := by
  rw [← sum_bySwap]
  simp only [bySwap_bySwap]

/-- The result array: row `r`, column `j` is the output of the arguments there. -/
theorem final (c : Dev nD) :
    (dats m 0 c).arrAt 11 cfg0.N = fun i : S4096x1024.Idx => outputCall (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1) := by
  refine (dats m 0 c).arrAt_eq_of_covers 11 _ (by decide +kernel) fun t hf y => ?_
  blk_simp
  rw [after0_11]
  frame_out
  idx_vars y
  have e : (((cfg0.win 11).blk t).view.emb (ix2 y0 y1) : S4096x1024.Idx) = ix2 (row t y0) y1 := by
    blk_ext [idx t]
  have e0 : ((View.whole main_v24).slice (win0_11.rect t)).emb (ix2 y0 y1) = (ix2 (row t y0) y1 : S4096x1024.Idx) := e
  rw [e0]
  pointwise [k0_pay9, k0_pay8, k0_pay7, k0_pay6, k0_pay5, k0_pay4, k0_pay2, k0_pay1]
  have n0 : ((0 : Fin 3) = 2) = False := by decide
  have n1 : ((1 : Fin 3) = 2) = False := by decide
  simp only [hidden_eq, hidden_named, sigmoid_eq, blk0, blk1, blk2, blk3, blk4, blk6, blk7, blk8, blk9, blk10, n0, n1, if_true,
    if_false, swapped]
  simp only [outputCall, output, rms, vecMat, merged, gate, third, hid]

end Cert.Kernel3Ideal.Hand
-- ==== Proof.MergeRef.lean ====
/-
  The output call's reference: its result at an index is `Cert.Layer.output` of the arguments.
-/
module

public import proofs.«01_k».proof.Proof.Gen.Reference3Ideal.Run
public import proofs.«01_k».proof.Proof.MergeSpec
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Reference3Ideal.Hand
open Cert.Reference3Ideal Cert.Layer

variable (m : (ℓ : Loc nD τ sig) → Buf (Elt Ideal) ℓ)

theorem ref_eq (c : Dev nD) (r : Fin 4096) (j : Fin 1024) : (Value.res_main_v77 (F := Ideal) m c (ix2 r j) : EReal) =
    outputCall (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) r j := by
  unfold Value.res_main_v77
  clean_types
  pointwise
  rfl

end Cert.Reference3Ideal.Hand
-- ==== Proof.Merge.lean ====
/-
  The output call's claims.
-/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.MergeKernel
public import proofs.«01_k».proof.Proof.MergeRef
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem

namespace Cert.Proof

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- Both programs leave the output of the same arguments. -/
theorem algebraic3 : Cert.algebraic_Kernel3Ideal_Reference3Ideal := by
  intro m g m' g' _ hargs
  refine ⟨fun c => fun i : Cert.Kernel3Ideal.S4096x1024.Idx => Cert.Layer.outputCall (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (i 0) (i 1), ?_, ?_⟩
  · refine (θ_run _ _ _).mono (fun r h c => ?_) (Cert.Kernel3Ideal.Value.run_blocks m g)
    exact ⟨(h c).1.trans (Cert.Kernel3Ideal.Hand.final m c), (h c).2⟩
  · refine (θ_run _ _ _).mono (fun r h c => ⟨(h c).1.trans ?_, (h c).2⟩) (Cert.Reference3Ideal.Value.run (F := Ideal) m' g')
    obtain ⟨e0, e1, e2, e3, e4, e5, e6, e7, e8, e9, e10⟩ := hargs c
    funext i
    idx_vars i
    refine (Cert.Reference3Ideal.Hand.ref_eq m' c i0 i1).trans ?_
    rw [e0, e1, e2, e3, e4, e5, e6, e7, e8, e9, e10]

end Cert.Proof

end
-- ==== Proof.RetSpec.lean ====
/-
  The retention call as mathematics: two chunks of 128 positions each way, their states, the chunk outputs and the head
  norm, over plain functions of the coordinates, and the law that joins a forward and a reversed pass.
-/
module

public import Idealize.ShloMosaic.Lib.Pointwise
public import proofs.«01_k».proof.Proof.Scalars

@[expose] public section

noncomputable section

namespace Cert.Layer

open Idealize.ShloMosaic

/-- The words of 256 and of the head norm's small constant, as both programs print them. -/
abbrev headWidth : EReal := Ideal.ofBits .f32 0x43800000#32
abbrev headEps : EReal := Ideal.ofBits .f32 0x358637BD#32

/-- The queries' scale, one over the root of 128. -/
abbrev scale : EReal := Ideal.ofBits .f32 1035273459#32

/-- The words of 127 and 128. -/
theorem word127 : Ideal.ofBits .f32 0x42FE0000#32 = ((127 : ℝ) : EReal) := by
  simp [Ideal.ofBits, Ideal.ieee, -EReal.coe_mul]; norm_num
theorem word128 : Ideal.ofBits .f32 0x43000000#32 = ((128 : ℝ) : EReal) := by
  simp [Ideal.ofBits, Ideal.ieee, -EReal.coe_mul]; norm_num

/-- A position's word as a number, -/
theorem pos_word (i : Fin 128) : (FloatOps.sitofp (F := Ideal) .f32 (BitVec.ofNat 32 i.val) : EReal) = ((i.val : ℝ) : EReal) := by
  have h : (BitVec.ofNat 32 i.val).toInt = i.val := by
    revert i
    decide +kernel
  show (((BitVec.ofNat 32 i.val).toInt : ℝ) : EReal) = _
  rw [h]
  norm_num

/-- and the difference of two positions' words. -/
theorem diff_word (i j : Fin 128) : (FloatOps.sitofp (F := Ideal) .f32 (IntOp.subi (BitVec.ofNat 32 i.val) (BitVec.ofNat 32 j.val)) : EReal)
    = ((i.val - j.val : ℝ) : EReal) := by
  have h : (IntOp.subi (BitVec.ofNat 32 i.val) (BitVec.ofNat 32 j.val)).toInt = (i.val : ℤ) - j.val := by
    revert i j
    decide +kernel
  show (((IntOp.subi (BitVec.ofNat 32 i.val) (BitVec.ofNat 32 j.val)).toInt : ℝ) : EReal) = _
  rw [h]
  norm_num

/-- A decay's logarithm from its parameter: minus the softplus of its negative. -/
def logDecay (a : EReal) : EReal := -(max (-a) 0 + Ideal.log1p (Ideal.exp (-(FloatOps.absf (F := Ideal) (φ := .f32) (-a) : EReal))))

/-- The decay over `n` positions. -/
def over (l : EReal) (n : ℝ) : EReal := Ideal.exp (l * (n : EReal))

/-- The decay over `n` positions, none for negative `n`. -/
def fade (l : EReal) (n : ℝ) : EReal := if 0 ≤ n then over l n else 0

theorem fade_eq (l : EReal) (n : ℝ) : (if 0 ≤ (n : EReal) then Ideal.exp (l * max (n : EReal) 0) else 0) = fade l n := by
  unfold fade over
  by_cases h : 0 ≤ n
  · have h' : (0 : EReal) ≤ n := by exact_mod_cast h
    rw [if_pos h, if_pos h', max_eq_left h']
  · have h' : ¬(0 : EReal) ≤ n := by exact_mod_cast h
    rw [if_neg h, if_neg h']

theorem fade_neg (l : EReal) (n : ℝ) : (if (n : EReal) ≤ 0 then Ideal.exp (l * max (0 - (n : EReal)) 0) else 0) = fade l (-n) := by
  rw [← fade_eq, zero_sub, ← EReal.coe_neg]
  have e : ((0 : EReal) ≤ ((-n : ℝ) : EReal)) = ((n : EReal) ≤ 0) := by
    apply propext
    have : (0 : EReal) = ((0 : ℝ) : EReal) := rfl
    rw [this, EReal.coe_le_coe_iff, EReal.coe_le_coe_iff]
    exact neg_nonneg
  simp only [e]

theorem exp_nonneg (x : EReal) : 0 ≤ Ideal.exp x := by
  induction x using EReal.rec with
  | bot => simp
  | top => simp
  | coe r => rw [Ideal.exp_coe]; exact_mod_cast (Real.exp_pos r).le

theorem fade_nonneg (l : EReal) (n : ℝ) : 0 ≤ fade l n := by
  unfold fade over
  split
  · exact exp_nonneg _
  · exact le_rfl

/-- A query against a key. -/
def score (q k : Fin 128 → EReal) : EReal := ∑ d, q d * k d

/-- A state after a chunk: the old one decayed, plus the chunk's keys times its values, each key decayed `w` positions. -/
def advance (k : Fin 128 → Fin 128 → EReal) (v : Fin 128 → Fin 256 → EReal) (l : EReal) (w : Fin 128 → ℝ)
    (s : Fin 128 → Fin 256 → EReal) (d : Fin 128) (e : Fin 256) : EReal :=
  s d e * over l 128 + ∑ x, k x d * over l (w x) * v x e

/-- How far a chunk's position is from its end, and from its start. -/
def toEnd (x : Fin 128) : ℝ := 127 - x.val
def toStart (x : Fin 128) : ℝ := x.val

/-- One direction's output at a chunk's position `i`. -/
def oneWay (q k : Fin 128 → Fin 128 → EReal) (v : Fin 128 → Fin 256 → EReal) (l : EReal) (s : Fin 128 → Fin 256 → EReal)
    (i : Fin 128) (e : Fin 256) : EReal :=
  (∑ x, score (q i) (k x) * fade l (i.val - x.val) * v x e) + ∑ d, q i d * over l (i.val + 1) * s d e

/-- Both directions' output at a chunk's position `i`. -/
def bothWays (q k : Fin 128 → Fin 128 → EReal) (v : Fin 128 → Fin 256 → EReal) (lF lB : EReal)
    (sF sB : Fin 128 → Fin 256 → EReal) (i : Fin 128) (e : Fin 256) : EReal :=
  (∑ x, score (q i) (k x) * (fade lF (i.val - x.val) + fade lB (-(i.val - x.val))) * v x e)
    + ((∑ d, q i d * over lF (i.val + 1) * sF d e) + ∑ d, q i d * over lB (128 - i.val) * sB d e)

theorem rev_val (i : Fin 128) : ((i.rev.val : ℕ) : ℝ) = 127 - i.val := by
  have h : i.rev.val + i.val = 127 := by rw [Fin.val_rev]; omega
  have : ((i.rev.val : ℕ) : ℝ) + i.val = 127 := by exact_mod_cast h
  linarith

/-- A sum over a chunk's positions in either order. -/
theorem sum_rev (f : Fin 128 → EReal) : ∑ x : Fin 128, f x.rev = ∑ x, f x := Equiv.sum_comp Fin.revPerm f

/-- A pass over the reversed chunk weighs each key by its distance to the chunk's start. -/
theorem advance_rev (k : Fin 128 → Fin 128 → EReal) (v : Fin 128 → Fin 256 → EReal) (l : EReal)
    (s : Fin 128 → Fin 256 → EReal) :
    advance (fun x => k x.rev) (fun x => v x.rev) l toEnd s = advance k v l toStart s := by
  funext d e
  unfold advance
  rw [← sum_rev fun x => k x d * over l (toStart x) * v x e]
  simp only [toEnd, toStart, rev_val]

/-- The forward pass plus the pass over the reversed chunk is the two-sided output. -/
theorem oneWay_add (q k : Fin 128 → Fin 128 → EReal) (v : Fin 128 → Fin 256 → EReal) (lF lB : EReal)
    (sF sB : Fin 128 → Fin 256 → EReal) (i : Fin 128) (e : Fin 256) :
    oneWay q k v lF sF i e + oneWay (fun x => q x.rev) (fun x => k x.rev) (fun x => v x.rev) lB sB i.rev e
      = bothWays q k v lF lB sF sB i e := by
  unfold oneWay bothWays
  have e1 : (∑ x : Fin 128, score (q i.rev.rev) (k x.rev) * fade lB (i.rev.val - x.val) * v x.rev e)
      = ∑ x, score (q i) (k x) * fade lB (-(i.val - x.val)) * v x e := by
    rw [← sum_rev fun x => score (q i) (k x) * fade lB (-(i.val - x.val)) * v x e]
    refine Finset.sum_congr rfl fun x _ => ?_
    rw [Fin.rev_rev, rev_val, rev_val]
    congr 3
    ring
  have e2 : (i.rev.val + 1 : ℝ) = 128 - i.val := by rw [rev_val]; ring
  rw [e1, e2]
  simp only [Fin.rev_rev]
  rw [add_add_add_comm, ← Finset.sum_add_distrib]
  congr 1
  refine Finset.sum_congr rfl fun x _ => ?_
  rw [mul_right_comm, mul_right_comm _ (fade lB _), mul_right_comm _ (fade lF _ + _),
    EReal.left_distrib_of_nonneg (fade_nonneg _ _) (fade_nonneg _ _)]

/-- A head's row less its mean, over its standard deviation. -/
def headNorm (o : Fin 256 → EReal) (e : Fin 256) : EReal :=
  (o e - Ideal.div (∑ x, o x) headWidth)
    * Ideal.rsqrt (Ideal.div (∑ x, (o x - Ideal.div (∑ x, o x) headWidth) * (o x - Ideal.div (∑ x, o x) headWidth)) headWidth + headEps)

/-- Position `i` of chunk `c`. -/
def chunk (c : Fin 2) (i : Fin 128) : Fin 256 := ⟨128 * c.val + i.val, by omega⟩

theorem chunk_zero (i : Fin 128) : chunk 0 i = ⟨i.val, by omega⟩ := Fin.ext (by show 128 * 0 + i.val = i.val; omega)
theorem chunk_one (i : Fin 128) : chunk 1 i = ⟨128 + i.val, by omega⟩ := rfl

section call
variable (A : (⟨3, ![16, 256, 7680]⟩ : Shape).Idx → EReal) (D : (⟨2, ![2, 4]⟩ : Shape).Idx → EReal)

/-- Head `h`'s queries, keys, values and gate columns in batch `b`, chunk `c`. -/
def qry (b : Fin 16) (h : Fin 4) (c : Fin 2) (i d : Fin 128) : EReal := A (ix3 b (chunk c i) ⟨6144 + (h.val * 128 + d.val), by omega⟩) * scale
def key (b : Fin 16) (h : Fin 4) (c : Fin 2) (i d : Fin 128) : EReal := A (ix3 b (chunk c i) ⟨6656 + (h.val * 128 + d.val), by omega⟩)
def vlu (b : Fin 16) (h : Fin 4) (c : Fin 2) (i : Fin 128) (e : Fin 256) : EReal := A (ix3 b (chunk c i) ⟨2048 + (h.val * 256 + e.val), by omega⟩)
def gat (b : Fin 16) (h : Fin 4) (c : Fin 2) (i : Fin 128) (e : Fin 256) : EReal := A (ix3 b (chunk c i) ⟨3072 + (h.val * 256 + e.val), by omega⟩)

def decay (n : Fin 2) (h : Fin 4) : EReal := logDecay (D (ix2 n h))

/-- The forward state after the first chunk and after both. -/
def fwd1 (b : Fin 16) (h : Fin 4) : Fin 128 → Fin 256 → EReal :=
  advance (key A b h 0) (vlu A b h 0) (decay D 0 h) toEnd fun _ _ => 0
def fwd2 (b : Fin 16) (h : Fin 4) : Fin 128 → Fin 256 → EReal :=
  advance (key A b h 1) (vlu A b h 1) (decay D 0 h) toEnd (fwd1 A D b h)

/-- The backward state after the second chunk and after both. -/
def bwd1 (b : Fin 16) (h : Fin 4) : Fin 128 → Fin 256 → EReal :=
  advance (key A b h 1) (vlu A b h 1) (decay D 1 h) toStart fun _ _ => 0
def bwd2 (b : Fin 16) (h : Fin 4) : Fin 128 → Fin 256 → EReal :=
  advance (key A b h 0) (vlu A b h 0) (decay D 1 h) toStart (bwd1 A D b h)

/-- The final states. -/
def retState (b : Fin 16) (n : Fin 2) (h : Fin 4) (d : Fin 128) (e : Fin 256) : EReal :=
  if n = 0 then fwd2 A D b h d e else bwd2 A D b h d e

/-- A head's row of both directions. -/
def headRow (b : Fin 16) (h : Fin 4) (c : Fin 2) (i : Fin 128) (e : Fin 256) : EReal :=
  if c = 0 then bothWays (qry A b h 0) (key A b h 0) (vlu A b h 0) (decay D 0 h) (decay D 1 h) (fun _ _ => 0) (bwd1 A D b h) i e
  else bothWays (qry A b h 1) (key A b h 1) (vlu A b h 1) (decay D 0 h) (decay D 1 h) (fwd1 A D b h) (fun _ _ => 0) i e

/-- The gated head norm. -/
def retHead (b : Fin 16) (h : Fin 4) (c : Fin 2) (i : Fin 128) (e : Fin 256) : EReal :=
  headNorm (headRow A D b h c i) e * (gat A b h c i e * Ideal.logistic (gat A b h c i e))

/-- The call's first result at row `r`, column `j`. -/
def retOut (b : Fin 16) (r : Fin 256) (j : Fin 1024) : EReal :=
  retHead A D b ⟨j.val / 256, by omega⟩ ⟨r.val / 128, by omega⟩ ⟨r.val % 128, by omega⟩ ⟨j.val % 256, by omega⟩

theorem retOut_at (b : Fin 16) (h : Fin 4) (c : Fin 2) (i : Fin 128) (e : Fin 256) (r : Fin 256) (j : Fin 1024)
    (hr : r.val = 128 * c.val + i.val) (hj : j.val = 256 * h.val + e.val) : retOut A D b r j = retHead A D b h c i e := by
  have e1 : (⟨j.val / 256, by omega⟩ : Fin 4) = h := Fin.ext (by show j.val / 256 = _; omega)
  have e2 : (⟨r.val / 128, by omega⟩ : Fin 2) = c := Fin.ext (by show r.val / 128 = _; omega)
  have e3 : (⟨r.val % 128, by omega⟩ : Fin 128) = i := Fin.ext (by show r.val % 128 = _; omega)
  have e4 : (⟨j.val % 256, by omega⟩ : Fin 256) = e := Fin.ext (by show j.val % 256 = _; omega)
  unfold retOut
  rw [e1, e2, e3, e4]

end call

end Cert.Layer
-- ==== Proof.RetBlocks.lean ====
/-
  The retention call's blocks: what each input window holds at a grid point, at an index, of the arguments.
-/
module

public import proofs.«01_k».proof.Proof.Gen.KernelIdeal.Frame
public import proofs.«01_k».proof.Proof.RetSpec
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen Cert.Layer

variable (m : (ℓ : Loc nD τ sig) → Buf (Elt Ideal) ℓ)

/-- The windows' blocks: the arrays' move with the point, the decays' stays. -/
theorem idx : ∀ t : Fin cfg0.N, win0_0.index t = ![t.val, 0, 12] ∧ win0_1.index t = ![t.val, 0, 13] ∧ win0_2.index t = ![t.val, 0, 2]
    ∧ win0_3.index t = ![t.val, 0, 3] ∧ win0_4.index t = ![0, 0, 0, 0] ∧ win0_5.index t = ![t.val, 0, 0]
    ∧ win0_6.index t = ![t.val, 0, 0, 0, 0] := by decide +kernel

/-- The batch of a grid point. -/
abbrev bat (t : Fin cfg0.N) : Fin 16 := ⟨t.val, t.isLt⟩

theorem blk0 (c : Dev nD) (t : Fin cfg0.N) (r : Fin 256) (j : Fin 512) : (iblk m c 0 t (ix3 0 r j) : EReal) =
    m ((c : Thread nD τ).loc main_arg0) (ix3 (bat t) r ⟨6144 + j.val, by omega⟩) := by
  blk_ext! [iblk, V, idx t]
theorem blk1 (c : Dev nD) (t : Fin cfg0.N) (r : Fin 256) (j : Fin 512) : (iblk m c 1 t (ix3 0 r j) : EReal) =
    m ((c : Thread nD τ).loc main_arg0) (ix3 (bat t) r ⟨6656 + j.val, by omega⟩) := by
  blk_ext! [iblk, V, idx t]
theorem blk2 (c : Dev nD) (t : Fin cfg0.N) (r : Fin 256) (j : Fin 1024) : (X0_2 m c t (ix3 0 r j) : EReal) =
    m ((c : Thread nD τ).loc main_arg0) (ix3 (bat t) r ⟨2048 + j.val, by omega⟩) := by
  unfold X0_2 Pipeline.Window.fill
  rw [dif_pos (moved0_2 t _)]
  blk_ext! [iblk, V, idx t]
theorem blk3 (c : Dev nD) (t : Fin cfg0.N) (r : Fin 256) (j : Fin 1024) : (X0_3 m c t (ix3 0 r j) : EReal) =
    m ((c : Thread nD τ).loc main_arg0) (ix3 (bat t) r ⟨3072 + j.val, by omega⟩) := by
  unfold X0_3 Pipeline.Window.fill
  rw [dif_pos (moved0_3 t _)]
  blk_ext! [iblk, V, idx t]
theorem blk4 (c : Dev nD) (t : Fin cfg0.N) (n : Fin 2) (h : Fin 4) (l : Fin 256) : (iblk m c 4 t (ix4 n h 0 l) : EReal) =
    m ((c : Thread nD τ).loc main_arg1) (ix2 n h) := by
  blk_ext! [iblk, V, idx t]

end Cert.KernelIdeal.Hand
-- ==== Proof.RetReads.lean ====
/-
  Loads of part of what a body stored, and of what two stores left together: the sequence's half of a head's rows, a chunk's two states.
-/
module

public import Idealize.ShloMosaic.Lib.Pipeline.ValueKit
public import Idealize.ShloMosaic.Lib.Pipeline.ReadBack
public import Idealize.ShloMosaic.Lib.Pointwise

@[expose] public section

noncomputable section

open Idealize.ShloMosaic Idealize.ShloMosaic.TcCoe

namespace Cert.Layer

variable {sig : RefSig} {κ : Kind} {sp : Space} {e : EltTy} {Val : EltTy → Type} [∀ e, Nonempty (Val e)]

/-- The shape of a head's rows and of all chunks' states. -/
abbrev Rows : Shape := ⟨3, ![4, 256, 128]⟩
abbrev States : Shape := ⟨4, ![4, 2, 256, 256]⟩

/-- A load of 128 of the 256 rows stored last for head `a`. -/
theorem half_read (v : View sig κ sp Rows e) (a r : ℕ) (inb : ∀ i, ![a, 0, 0] i + ![1, 256, 128] i ≤ Rows.size i)
    (inb' : ∀ i, ![a, r, 0] i + ![1, 128, 128] i ≤ Rows.size i)
    (w : (⟨3, ![1, 256, 128]⟩ : Shape).Idx → Val e) (L : List (View.Piece Val Rows e)) (x : Fin 128) (y : Fin 128) :
    v.readCov (⟨Rect.unit (s := Rows) ![a, 0, 0] ![1, 256, 128] inb, w⟩ :: L)
        (Rect.unit (s := Rows) ![a, r, 0] ![1, 128, 128] inb').toLoadRect (ix3 0 x y : (⟨3, ![1, 128, 128]⟩ : Shape).Idx)
      = w (ix3 0 ⟨r + x.val, by have := inb' 1; simp at this; omega⟩ y) := by
  rw [View.readCov_eq_canon']
  have hix : (Rect.unit (s := Rows) ![a, r, 0] ![1, 128, 128] inb').toLoadRect.idx (ix3 0 x y : (⟨3, ![1, 128, 128]⟩ : Shape).Idx)
      = (Rect.unit (s := Rows) ![a, 0, 0] ![1, 256, 128] inb).emb (ix3 0 ⟨r + x.val, by have := inb' 1; simp at this; omega⟩ y : (⟨3, ![1, 256, 128]⟩ : Shape).Idx) := by
    funext i
    apply Fin.ext
    fin_cases i
    · rfl
    · show r + 1 * x.val = 0 + 1 * (r + x.val)
      omega
    · rfl
  beta_reduce
  rw [hix]
  exact View.canon_cons_emb (Rect.unit (s := Rows) ![a, 0, 0] ![1, 256, 128] inb) w L (ix3 0 ⟨r + x.val, by have := inb' 1; simp at this; omega⟩ y)

/-- The upper 128 rows of the state a chunk loads, stored last. -/
theorem upper_read (v : View sig κ sp States e) (a b : ℕ) (inb : ∀ i, ![a, b, 0, 0] i + ![1, 1, 128, 256] i ≤ States.size i)
    (inb' : ∀ i, ![a, b, 0, 0] i + ![1, 1, 256, 256] i ≤ States.size i)
    (w : (⟨4, ![1, 1, 128, 256]⟩ : Shape).Idx → Val e) (L : List (View.Piece Val States e)) (k : Fin 128) (hk : k.val < 256) (p : Fin 256) :
    v.readCov (⟨Rect.unit (s := States) ![a, b, 0, 0] ![1, 1, 128, 256] inb, w⟩ :: L)
        (Rect.unit (s := States) ![a, b, 0, 0] ![1, 1, 256, 256] inb').toLoadRect (ix4 0 0 ⟨k.val, hk⟩ p : (⟨4, ![1, 1, 256, 256]⟩ : Shape).Idx)
      = w (ix4 0 0 k p) := by
  rw [View.readCov_eq_canon']
  have hix : (Rect.unit (s := States) ![a, b, 0, 0] ![1, 1, 256, 256] inb').toLoadRect.idx (ix4 0 0 ⟨k.val, hk⟩ p : (⟨4, ![1, 1, 256, 256]⟩ : Shape).Idx)
      = (Rect.unit (s := States) ![a, b, 0, 0] ![1, 1, 128, 256] inb).emb (ix4 0 0 k p : (⟨4, ![1, 1, 128, 256]⟩ : Shape).Idx) := by
    funext i
    apply Fin.ext
    fin_cases i
    · rfl
    · rfl
    · rfl
    · rfl
  beta_reduce
  rw [hix]
  exact View.canon_cons_emb (Rect.unit (s := States) ![a, b, 0, 0] ![1, 1, 128, 256] inb) w L (ix4 0 0 k p)

/-- The lower 128 rows, stored last. -/
theorem lower_read (v : View sig κ sp States e) (a b : ℕ) (inb : ∀ i, ![a, b, 128, 0] i + ![1, 1, 128, 256] i ≤ States.size i)
    (inb' : ∀ i, ![a, b, 0, 0] i + ![1, 1, 256, 256] i ≤ States.size i)
    (w : (⟨4, ![1, 1, 128, 256]⟩ : Shape).Idx → Val e) (L : List (View.Piece Val States e)) (k : Fin 128) (hk : 128 + k.val < 256) (p : Fin 256) :
    v.readCov (⟨Rect.unit (s := States) ![a, b, 128, 0] ![1, 1, 128, 256] inb, w⟩ :: L)
        (Rect.unit (s := States) ![a, b, 0, 0] ![1, 1, 256, 256] inb').toLoadRect (ix4 0 0 ⟨128 + k.val, hk⟩ p : (⟨4, ![1, 1, 256, 256]⟩ : Shape).Idx)
      = w (ix4 0 0 k p) := by
  rw [View.readCov_eq_canon']
  have hix : (Rect.unit (s := States) ![a, b, 0, 0] ![1, 1, 256, 256] inb').toLoadRect.idx (ix4 0 0 ⟨128 + k.val, hk⟩ p : (⟨4, ![1, 1, 256, 256]⟩ : Shape).Idx)
      = (Rect.unit (s := States) ![a, b, 128, 0] ![1, 1, 128, 256] inb).emb (ix4 0 0 k p : (⟨4, ![1, 1, 128, 256]⟩ : Shape).Idx) := by
    funext i
    apply Fin.ext
    fin_cases i
    · rfl
    · rfl
    · show 0 + 1 * (128 + k.val) = 128 + 1 * k.val
      omega
    · rfl
  beta_reduce
  rw [hix]
  exact View.canon_cons_emb (Rect.unit (s := States) ![a, b, 128, 0] ![1, 1, 128, 256] inb) w L (ix4 0 0 k p)

/-- The lower rows are not in a store of the upper ones, -/
theorem lower_skip (v : View sig κ sp States e) (a b : ℕ) (inb : ∀ i, ![a, b, 0, 0] i + ![1, 1, 128, 256] i ≤ States.size i)
    (inb' : ∀ i, ![a, b, 0, 0] i + ![1, 1, 256, 256] i ≤ States.size i)
    (w : (⟨4, ![1, 1, 128, 256]⟩ : Shape).Idx → Val e) (L : List (View.Piece Val States e)) (k : Fin 128) (hk : 128 + k.val < 256) (p : Fin 256) :
    v.readCov (⟨Rect.unit (s := States) ![a, b, 0, 0] ![1, 1, 128, 256] inb, w⟩ :: L)
        (Rect.unit (s := States) ![a, b, 0, 0] ![1, 1, 256, 256] inb').toLoadRect (ix4 0 0 ⟨128 + k.val, hk⟩ p : (⟨4, ![1, 1, 256, 256]⟩ : Shape).Idx)
      = v.readCov L (Rect.unit (s := States) ![a, b, 0, 0] ![1, 1, 256, 256] inb').toLoadRect (ix4 0 0 ⟨128 + k.val, hk⟩ p : (⟨4, ![1, 1, 256, 256]⟩ : Shape).Idx) := by
  rw [View.readCov_eq_canon', View.readCov_eq_canon']
  refine View.canon_cons_of_not_mem _ L fun h => ?_
  have h2 : 0 + 1 * (128 + k.val) < 0 + 128 := (Rect.mem_set_unit (inb := inb).mp h 2).2
  omega

/-- nor the upper rows in a store of the lower ones. -/
theorem upper_skip (v : View sig κ sp States e) (a b : ℕ) (inb : ∀ i, ![a, b, 128, 0] i + ![1, 1, 128, 256] i ≤ States.size i)
    (inb' : ∀ i, ![a, b, 0, 0] i + ![1, 1, 256, 256] i ≤ States.size i)
    (w : (⟨4, ![1, 1, 128, 256]⟩ : Shape).Idx → Val e) (L : List (View.Piece Val States e)) (k : Fin 128) (hk : k.val < 256) (p : Fin 256) :
    v.readCov (⟨Rect.unit (s := States) ![a, b, 128, 0] ![1, 1, 128, 256] inb, w⟩ :: L)
        (Rect.unit (s := States) ![a, b, 0, 0] ![1, 1, 256, 256] inb').toLoadRect (ix4 0 0 ⟨k.val, hk⟩ p : (⟨4, ![1, 1, 256, 256]⟩ : Shape).Idx)
      = v.readCov L (Rect.unit (s := States) ![a, b, 0, 0] ![1, 1, 256, 256] inb').toLoadRect (ix4 0 0 ⟨k.val, hk⟩ p : (⟨4, ![1, 1, 256, 256]⟩ : Shape).Idx) := by
  rw [View.readCov_eq_canon', View.readCov_eq_canon']
  refine View.canon_cons_of_not_mem _ L fun h => ?_
  have h2 : 128 ≤ 0 + 1 * k.val := (Rect.mem_set_unit (inb := inb).mp h 2).1
  omega

end Cert.Layer
-- ==== Proof.RetKernel.lean ====
/-
  What the retention call's kernel leaves: its states array at an index is `Cert.Layer.retState` of the arguments.
-/
module

public import proofs.«01_k».proof.Proof.Gen.KernelIdeal.Value
public import proofs.«01_k».proof.Proof.RetBlocks
public import Idealize.ShloMosaic.Lib.Pipeline.ValueKit
public import Idealize.ShloMosaic.Lib.Pipeline.ReadBack
public import proofs.«01_k».proof.Proof.RetReads
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen Cert.Layer

variable (m : (ℓ : Loc nD τ sig) → Buf (Elt Ideal) ℓ)

/-- A decay as the kernel writes it. -/
theorem decay_sub (a : EReal) : 0 - (max (0 - a) 0 + Ideal.log1p (Ideal.exp (0 - (FloatOps.absf (F := Ideal) (φ := .f32) (0 - a) : EReal)))) = logDecay a := by
  simp only [zero_sub]
  rfl

/-- A head's keys as the kernel loads them. -/
theorem key_ld (c : Dev nD) (t : Fin cfg0.N) (a : ℕ) (inb : ∀ i, ![0, 0, a] i + ![1, 256, 128] i ≤ S1x256x512.size i)
    (r : Fin 256) (d : Fin 128) :
    (View.ld (iblk m c 1 t) (Rect.unit (s := S1x256x512) ![0, 0, a] ![1, 256, 128] inb) (ix3 0 r d : S1x256x128.Idx) : EReal)
      = m ((c : Thread nD τ).loc main_arg0) (ix3 (bat t) r ⟨6656 + (a + d.val), by have := inb 2; simp at this; omega⟩) := by
  refine Eq.trans ?_ (blk1 m c t r ⟨a + d.val, by have := inb 2; simp at this; omega⟩)
  show (iblk m c 1 t _ : EReal) = _
  congr 1
  funext k
  apply Fin.ext
  fin_cases k
  · rfl
  · show 0 + 1 * r.val = r.val
    omega
  · show a + 1 * d.val = a + d.val
    omega

/-- A head's queries. -/
theorem qry_ld (c : Dev nD) (t : Fin cfg0.N) (a : ℕ) (inb : ∀ i, ![0, 0, a] i + ![1, 256, 128] i ≤ S1x256x512.size i)
    (r : Fin 256) (d : Fin 128) :
    (View.ld (iblk m c 0 t) (Rect.unit (s := S1x256x512) ![0, 0, a] ![1, 256, 128] inb) (ix3 0 r d : S1x256x128.Idx) : EReal)
      = m ((c : Thread nD τ).loc main_arg0) (ix3 (bat t) r ⟨6144 + (a + d.val), by have := inb 2; simp at this; omega⟩) := by
  refine Eq.trans ?_ (blk0 m c t r ⟨a + d.val, by have := inb 2; simp at this; omega⟩)
  show (iblk m c 0 t _ : EReal) = _
  congr 1
  funext k
  apply Fin.ext
  fin_cases k
  · rfl
  · show 0 + 1 * r.val = r.val
    omega
  · show a + 1 * d.val = a + d.val
    omega

theorem final6 (c : Dev nD) :
    (dats m 0 c).arrAt 6 cfg0.N = fun i : S16x2x4x128x256.Idx => retState (m ((c : Thread nD τ).loc main_arg0)) (m ((c : Thread nD τ).loc main_arg1)) (i 0) (i 1) (i 2) (i 3) (i 4) := by
  refine (dats m 0 c).arrAt_eq_of_covers 6 _ (by decide +kernel) fun t hf y => ?_
  blk_simp
  rw [after0_6]
  unfold outsAt0
  dsimp only
  idx_vars y
  have e : (((cfg0.win 6).blk t).view.emb (ix5 y0 y1 y2 y3 y4) : S16x2x4x128x256.Idx) = ix5 (bat t) y1 y2 y3 y4 := by
    blk_ext [idx t]
  have e0 : ((View.whole main_v2_1).slice (win0_6.rect t)).emb (ix5 y0 y1 y2 y3 y4) = (ix5 (bat t) y1 y2 y3 y4 : S16x2x4x128x256.Idx) := e
  rw [e0]
  clear e e0
  frame_open
  simp (disch := decide) only [↓ View.readCov_skip, ↓ View.readCov_cons_toLoadRect, ↓ View.readCov_fill]
  frame_out
  canon_tiles x h
  all_goals
    idx_vars x
    obtain rfl : y3 = x3 := Fin.ext h3
    obtain rfl : y4 = x4 := Fin.ext h4
  case piece0 =>
    obtain rfl : y1 = 1 := Fin.ext (by show y1.val = 1; omega)
    obtain rfl : y2 = 3 := Fin.ext (by show y2.val = 3; omega)
    have b2 := blk2 m c t
    generalize X0_2 m c t = v at b2 ⊢
    open_payloads
    pointwise
    simp only [half_read, decay_sub, key_ld, b2, blk4, pos_word, word127, word128, ← EReal.coe_sub, zero_add]
    simp only [retState, one_ne_zero, if_true, if_false, bwd2, bwd1, advance, key, vlu, chunk_zero, chunk_one, Fin.val_zero, zero_mul, zero_add, decay, over, toStart]
    rfl
  case piece1 =>
    obtain rfl : y1 = 0 := Fin.ext (by show y1.val = 0; omega)
    obtain rfl : y2 = 3 := Fin.ext (by show y2.val = 3; omega)
    have b2 := blk2 m c t
    generalize X0_2 m c t = v at b2 ⊢
    open_payloads
    pointwise
    simp only [half_read, decay_sub, key_ld, b2, blk4, pos_word, word127, word128, ← EReal.coe_sub, zero_add]
    simp only [retState, one_ne_zero, if_true, if_false, fwd2, fwd1, advance, key, vlu, chunk_zero, chunk_one, Fin.val_zero, zero_mul, zero_add, decay, over, toEnd]
    rfl
  case piece2 =>
    obtain rfl : y1 = 1 := Fin.ext (by show y1.val = 1; omega)
    obtain rfl : y2 = 2 := Fin.ext (by show y2.val = 2; omega)
    have b2 := blk2 m c t
    generalize X0_2 m c t = v at b2 ⊢
    open_payloads
    pointwise
    simp only [half_read, decay_sub, key_ld, b2, blk4, pos_word, word127, word128, ← EReal.coe_sub, zero_add]
    simp only [retState, one_ne_zero, if_true, if_false, bwd2, bwd1, advance, key, vlu, chunk_zero, chunk_one, Fin.val_zero, zero_mul, zero_add, decay, over, toStart]
    rfl
  case piece3 =>
    obtain rfl : y1 = 0 := Fin.ext (by show y1.val = 0; omega)
    obtain rfl : y2 = 2 := Fin.ext (by show y2.val = 2; omega)
    have b2 := blk2 m c t
    generalize X0_2 m c t = v at b2 ⊢
    open_payloads
    pointwise
    simp only [half_read, decay_sub, key_ld, b2, blk4, pos_word, word127, word128, ← EReal.coe_sub, zero_add]
    simp only [retState, one_ne_zero, if_true, if_false, fwd2, fwd1, advance, key, vlu, chunk_zero, chunk_one, Fin.val_zero, zero_mul, zero_add, decay, over, toEnd]
    rfl
  case piece4 =>
    obtain rfl : y1 = 1 := Fin.ext (by show y1.val = 1; omega)
    obtain rfl : y2 = 1 := Fin.ext (by show y2.val = 1; omega)
    have b2 := blk2 m c t
    generalize X0_2 m c t = v at b2 ⊢
    open_payloads
    pointwise
    simp only [half_read, decay_sub, key_ld, b2, blk4, pos_word, word127, word128, ← EReal.coe_sub, zero_add]
    simp only [retState, one_ne_zero, if_true, if_false, bwd2, bwd1, advance, key, vlu, chunk_zero, chunk_one, Fin.val_zero, zero_mul, zero_add, decay, over, toStart]
    rfl
  case piece5 =>
    obtain rfl : y1 = 0 := Fin.ext (by show y1.val = 0; omega)
    obtain rfl : y2 = 1 := Fin.ext (by show y2.val = 1; omega)
    have b2 := blk2 m c t
    generalize X0_2 m c t = v at b2 ⊢
    open_payloads
    pointwise
    simp only [half_read, decay_sub, key_ld, b2, blk4, pos_word, word127, word128, ← EReal.coe_sub, zero_add]
    simp only [retState, one_ne_zero, if_true, if_false, fwd2, fwd1, advance, key, vlu, chunk_zero, chunk_one, Fin.val_zero, zero_mul, zero_add, decay, over, toEnd]
    rfl
  case piece6 =>
    obtain rfl : y1 = 1 := Fin.ext (by show y1.val = 1; omega)
    obtain rfl : y2 = 0 := Fin.ext (by show y2.val = 0; omega)
    have b2 := blk2 m c t
    generalize X0_2 m c t = v at b2 ⊢
    open_payloads
    pointwise
    simp only [half_read, decay_sub, key_ld, b2, blk4, pos_word, word127, word128, ← EReal.coe_sub, zero_add]
    simp only [retState, one_ne_zero, if_true, if_false, bwd2, bwd1, advance, key, vlu, chunk_zero, chunk_one, Fin.val_zero, zero_mul, zero_add, decay, over, toStart]
  case piece7 =>
    obtain rfl : y1 = 0 := Fin.ext (by show y1.val = 0; omega)
    obtain rfl : y2 = 0 := Fin.ext (by show y2.val = 0; omega)
    have b2 := blk2 m c t
    generalize X0_2 m c t = v at b2 ⊢
    open_payloads
    pointwise
    simp only [half_read, decay_sub, key_ld, b2, blk4, pos_word, word127, word128, ← EReal.coe_sub, zero_add]
    simp only [retState, one_ne_zero, if_true, if_false, fwd2, fwd1, advance, key, vlu, chunk_zero, chunk_one, Fin.val_zero, zero_mul, zero_add, decay, over, toEnd]
end Cert.KernelIdeal.Hand
-- ==== Proof.RetOut.lean ====
/-
  What the retention call's kernel leaves: its first result at an index is `Cert.Layer.retOut` of the arguments.
-/
module

public import proofs.«01_k».proof.Proof.Gen.KernelIdeal.Value
public import proofs.«01_k».proof.Proof.RetKernel
public import Idealize.ShloMosaic.Lib.Pipeline.ValueKit
public import Idealize.ShloMosaic.Lib.Pipeline.ReadBack
public import proofs.«01_k».proof.Proof.RetReads
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Hand
open Cert.KernelIdeal Cert.KernelIdeal.Gen Cert.Layer

section piece
variable (A B C : FVec Ideal S128x128 .f32) (q k : Vec Ideal S1x128x128 .f32) (v g : Vec Ideal S1x128x256 .f32) (S : Vec Ideal S1x1x256x256 .bf16)

/-- One head's rows of one chunk, of its three decay tables, its rows and the two states. -/
def piece : FVec Ideal S1x128x256 .f32 := k0_pay153 (k0_pay151 A B C q k v S) (k0_pay152 g)

theorem p1 : k0_pay156 (k0_pay154 A B C q k v S) (k0_pay155 A B C q k v S) g = piece A B C q k v g S := rfl
theorem p2 : k0_pay161 (k0_pay160 A B C (k0_pay157 q) (k0_pay158 k) (k0_pay159 v) S g) = piece A B C q k v g S := rfl
theorem p3 : k0_pay165 (k0_pay162 A B C q k v S) (k0_pay163 A B C q k v S) k0_pay164 g = piece A B C q k v g S := rfl
theorem p4 : k0_pay170 (k0_pay167 v) (k0_pay168 B C q) (k0_pay169 A q k) (constant S128x256 .f32 0x00000000#32) S g = piece A B C q k v g S := rfl
theorem p5 : k0_pay173 (k0_pay171 A B C q k v S) (k0_pay172 g) = piece A B C q k v g S := rfl
theorem p6 : k0_pay176 (k0_pay174 A B C q k v S) (k0_pay175 A B C q k v S) g = piece A B C q k v g S := rfl
theorem p7 : k0_pay181 (k0_pay180 A B C (k0_pay177 q) (k0_pay178 k) (k0_pay179 v) S g) = piece A B C q k v g S := rfl

theorem piece_at (i : Fin 128) (e : Fin 256) (q' k' : Fin 128 → Fin 128 → EReal) (v' : Fin 128 → Fin 256 → EReal) (g' lF lB : EReal)
    (sF sB : Fin 128 → Fin 256 → EReal)
    (hA : ∀ x : Fin 128, (A (ix2 i x) : EReal) = fade lF (i.val - x.val) + fade lB (-(i.val - x.val)))
    (hB : ∀ d : Fin 128, (B (ix2 i d) : EReal) = over lF (i.val + 1))
    (hC : ∀ d : Fin 128, (C (ix2 i d) : EReal) = over lB (128 - i.val))
    (hq : ∀ d : Fin 128, (q (ix3 0 i d) : EReal) = q' i d)
    (hk : ∀ x d : Fin 128, (k (ix3 0 x d) : EReal) = k' x d)
    (hv : ∀ (x : Fin 128) (e : Fin 256), (v (ix3 0 x e) : EReal) = v' x e)
    (hg : (g (ix3 0 i e) : EReal) = g')
    (hF : ∀ (d : Fin 128) (h : d.val < 256) (e : Fin 256), @Eq EReal (S (ix4 0 0 ⟨d.val, h⟩ e)) (sF d e))
    (hS : ∀ (d : Fin 128) (h : 128 + d.val < 256) (e : Fin 256), @Eq EReal (S (ix4 0 0 ⟨128 + d.val, h⟩ e)) (sB d e)) :
    (piece A B C q k v g S (ix3 0 i e) : EReal) = headNorm (bothWays q' k' v' lF lB sF sB i) e * (g' * Ideal.logistic g') := by
  pointwise [piece, k0_pay151, k0_pay152, k0_pay153]
  simp only [hA, hB, hC, hq, hk, hv, hg, hF, hS, sigmoid_eq]
  rfl

end piece

variable (m : (ℓ : Loc nD τ sig) → Buf (Elt Ideal) ℓ)

set_option maxHeartbeats 1600000 in
/-- The first result's array. -/
theorem final5 (c : Dev nD) :
    (dats m 0 c).arrAt 5 cfg0.N = fun i : S16x256x1024.Idx => retOut (m ((c : Thread nD τ).loc main_arg0)) (m ((c : Thread nD τ).loc main_arg1)) (i 0) (i 1) (i 2) := by
  refine (dats m 0 c).arrAt_eq_of_covers 5 _ (by decide +kernel) fun t hf y => ?_
  blk_simp
  rw [after0_5]
  unfold outsAt0
  dsimp only
  idx_vars y
  have e : (((cfg0.win 5).blk t).view.emb (ix3 y0 y1 y2) : S16x256x1024.Idx) = ix3 (bat t) y1 y2 := by
    blk_ext [idx t]
  have e0 : ((View.whole main_v2_0).slice (win0_5.rect t)).emb (ix3 y0 y1 y2) = (ix3 (bat t) y1 y2 : S16x256x1024.Idx) := e
  rw [e0]
  clear e e0
  frame_open
  simp (disch := decide) only [↓ View.readCov_skip, ↓ View.readCov_cons_toLoadRect, ↓ View.readCov_fill]
  frame_out
  canon_tiles x h
  all_goals
    idx_vars x
    obtain rfl : x0 = 0 := Fin.ext (by show x0.val = 0; omega)
  case piece7 =>
    have b2 := blk2 m c t
    have b3 := blk3 m c t
    generalize X0_2 m c t = v at b2 ⊢
    generalize X0_3 m c t = g at b3 ⊢
    rw [retOut_at (m ((c : Thread nD τ).loc main_arg0)) (m ((c : Thread nD τ).loc main_arg1)) (bat t) 0 0 x1 x2 y1 y2 (by show y1.val = 128 * 0 + x1.val; omega) (by show y2.val = 256 * 0 + x2.val; omega)]
    refine (piece_at _ _ _ _ _ _ _ _ x1 x2 (qry (m ((c : Thread nD τ).loc main_arg0)) (bat t) 0 0) (key (m ((c : Thread nD τ).loc main_arg0)) (bat t) 0 0) (vlu (m ((c : Thread nD τ).loc main_arg0)) (bat t) 0 0)
      (gat (m ((c : Thread nD τ).loc main_arg0)) (bat t) 0 0 x1 x2) (decay (m ((c : Thread nD τ).loc main_arg1)) 0 0) (decay (m ((c : Thread nD τ).loc main_arg1)) 1 0) (fun _ _ => 0) (bwd1 (m ((c : Thread nD τ).loc main_arg0)) (m ((c : Thread nD τ).loc main_arg1)) (bat t) 0) ?_ ?_ ?_ ?_ ?_ ?_ ?_ ?_ ?_).trans rfl
    · intro x
      open_payloads
      pointwise
      simp only [decay_sub, blk4, diff_word, fade_eq, fade_neg]
      rfl
    · intro d
      open_payloads
      pointwise
      simp only [decay_sub, blk4, pos_word]
      rfl
    · intro d
      open_payloads
      pointwise
      simp only [decay_sub, blk4, pos_word, word128, ← EReal.coe_sub]
      rfl
    · intro d
      simp only [half_read]
      open_payloads
      pointwise
      simp only [qry_ld, blk0, qry, chunk_zero, chunk_one, Fin.val_zero, zero_mul, zero_add]
      try rfl
    · intro x d
      simp only [half_read]
      open_payloads
      pointwise
      simp only [key_ld, blk1, key, chunk_zero, chunk_one, Fin.val_zero, zero_mul, zero_add]
      try rfl
    · intro x e
      pointwise
      simp only [b2, vlu, chunk_zero, chunk_one, Fin.val_zero, zero_mul, zero_add]
      try rfl
    · pointwise
      simp only [b3, gat, chunk_zero, chunk_one, Fin.val_zero, zero_mul, zero_add]
      try rfl
    · intro d hd e
      simp (disch := decide) only [View.readCov_skip, upper_skip, upper_read]
      open_payloads
      pointwise
      try rfl
    · intro d hd e
      simp (disch := decide) only [View.readCov_skip, lower_skip, lower_read]
      open_payloads
      pointwise
      simp only [half_read, decay_sub, key_ld, b2, blk4, pos_word, word127, word128, ← EReal.coe_sub, zero_add]
      simp only [bwd1, advance, key, vlu, chunk_zero, chunk_one, Fin.val_zero, zero_mul, zero_add, decay, over, toStart]
      try rfl
  case piece6 =>
    have b2 := blk2 m c t
    have b3 := blk3 m c t
    generalize X0_2 m c t = v at b2 ⊢
    generalize X0_3 m c t = g at b3 ⊢
    rw [retOut_at (m ((c : Thread nD τ).loc main_arg0)) (m ((c : Thread nD τ).loc main_arg1)) (bat t) 1 0 x1 x2 y1 y2 (by show y1.val = 128 * 0 + x1.val; omega) (by show y2.val = 256 * 1 + x2.val; omega)]
    refine (congrFun (p1 _ _ _ _ _ _ _ _) _).trans ?_
    refine (piece_at _ _ _ _ _ _ _ _ x1 x2 (qry (m ((c : Thread nD τ).loc main_arg0)) (bat t) 1 0) (key (m ((c : Thread nD τ).loc main_arg0)) (bat t) 1 0) (vlu (m ((c : Thread nD τ).loc main_arg0)) (bat t) 1 0)
      (gat (m ((c : Thread nD τ).loc main_arg0)) (bat t) 1 0 x1 x2) (decay (m ((c : Thread nD τ).loc main_arg1)) 0 1) (decay (m ((c : Thread nD τ).loc main_arg1)) 1 1) (fun _ _ => 0) (bwd1 (m ((c : Thread nD τ).loc main_arg0)) (m ((c : Thread nD τ).loc main_arg1)) (bat t) 1) ?_ ?_ ?_ ?_ ?_ ?_ ?_ ?_ ?_).trans rfl
    · intro x
      open_payloads
      pointwise
      simp only [decay_sub, blk4, diff_word, fade_eq, fade_neg]
      rfl
    · intro d
      open_payloads
      pointwise
      simp only [decay_sub, blk4, pos_word]
      rfl
    · intro d
      open_payloads
      pointwise
      simp only [decay_sub, blk4, pos_word, word128, ← EReal.coe_sub]
      rfl
    · intro d
      simp only [half_read]
      open_payloads
      pointwise
      simp only [qry_ld, blk0, qry, chunk_zero, chunk_one, Fin.val_zero, zero_mul, zero_add]
      try rfl
    · intro x d
      simp only [half_read]
      open_payloads
      pointwise
      simp only [key_ld, blk1, key, chunk_zero, chunk_one, Fin.val_zero, zero_mul, zero_add]
      try rfl
    · intro x e
      pointwise
      simp only [b2, vlu, chunk_zero, chunk_one, Fin.val_zero, zero_mul, zero_add]
      try rfl
    · pointwise
      simp only [b3, gat, chunk_zero, chunk_one, Fin.val_zero, zero_mul, zero_add]
      try rfl
    · intro d hd e
      simp (disch := decide) only [View.readCov_skip, upper_skip, upper_read]
      open_payloads
      pointwise
      try rfl
    · intro d hd e
      simp (disch := decide) only [View.readCov_skip, lower_skip, lower_read]
      open_payloads
      pointwise
      simp only [half_read, decay_sub, key_ld, b2, blk4, pos_word, word127, word128, ← EReal.coe_sub, zero_add]
      simp only [bwd1, advance, key, vlu, chunk_zero, chunk_one, Fin.val_zero, zero_mul, zero_add, decay, over, toStart]
      try rfl
  case piece5 =>
    have b2 := blk2 m c t
    have b3 := blk3 m c t
    generalize X0_2 m c t = v at b2 ⊢
    generalize X0_3 m c t = g at b3 ⊢
    rw [retOut_at (m ((c : Thread nD τ).loc main_arg0)) (m ((c : Thread nD τ).loc main_arg1)) (bat t) 2 0 x1 x2 y1 y2 (by show y1.val = 128 * 0 + x1.val; omega) (by show y2.val = 256 * 2 + x2.val; omega)]
    refine (congrFun (p2 _ _ _ _ _ _ _ _) _).trans ?_
    refine (piece_at _ _ _ _ _ _ _ _ x1 x2 (qry (m ((c : Thread nD τ).loc main_arg0)) (bat t) 2 0) (key (m ((c : Thread nD τ).loc main_arg0)) (bat t) 2 0) (vlu (m ((c : Thread nD τ).loc main_arg0)) (bat t) 2 0)
      (gat (m ((c : Thread nD τ).loc main_arg0)) (bat t) 2 0 x1 x2) (decay (m ((c : Thread nD τ).loc main_arg1)) 0 2) (decay (m ((c : Thread nD τ).loc main_arg1)) 1 2) (fun _ _ => 0) (bwd1 (m ((c : Thread nD τ).loc main_arg0)) (m ((c : Thread nD τ).loc main_arg1)) (bat t) 2) ?_ ?_ ?_ ?_ ?_ ?_ ?_ ?_ ?_).trans rfl
    · intro x
      open_payloads
      pointwise
      simp only [decay_sub, blk4, diff_word, fade_eq, fade_neg]
      rfl
    · intro d
      open_payloads
      pointwise
      simp only [decay_sub, blk4, pos_word]
      rfl
    · intro d
      open_payloads
      pointwise
      simp only [decay_sub, blk4, pos_word, word128, ← EReal.coe_sub]
      rfl
    · intro d
      simp only [half_read]
      open_payloads
      pointwise
      simp only [qry_ld, blk0, qry, chunk_zero, chunk_one, Fin.val_zero, zero_mul, zero_add]
      try rfl
    · intro x d
      simp only [half_read]
      open_payloads
      pointwise
      simp only [key_ld, blk1, key, chunk_zero, chunk_one, Fin.val_zero, zero_mul, zero_add]
      try rfl
    · intro x e
      pointwise
      simp only [b2, vlu, chunk_zero, chunk_one, Fin.val_zero, zero_mul, zero_add]
      try rfl
    · pointwise
      simp only [b3, gat, chunk_zero, chunk_one, Fin.val_zero, zero_mul, zero_add]
      try rfl
    · intro d hd e
      simp (disch := decide) only [View.readCov_skip, upper_skip, upper_read]
      open_payloads
      pointwise
      try rfl
    · intro d hd e
      simp (disch := decide) only [View.readCov_skip, lower_skip, lower_read]
      open_payloads
      pointwise
      simp only [half_read, decay_sub, key_ld, b2, blk4, pos_word, word127, word128, ← EReal.coe_sub, zero_add]
      simp only [bwd1, advance, key, vlu, chunk_zero, chunk_one, Fin.val_zero, zero_mul, zero_add, decay, over, toStart]
      try rfl
  case piece4 =>
    have b2 := blk2 m c t
    have b3 := blk3 m c t
    generalize X0_2 m c t = v at b2 ⊢
    generalize X0_3 m c t = g at b3 ⊢
    rw [retOut_at (m ((c : Thread nD τ).loc main_arg0)) (m ((c : Thread nD τ).loc main_arg1)) (bat t) 3 0 x1 x2 y1 y2 (by show y1.val = 128 * 0 + x1.val; omega) (by show y2.val = 256 * 3 + x2.val; omega)]
    refine (congrFun (p3 _ _ _ _ _ _ _ _) _).trans ?_
    refine (piece_at _ _ _ _ _ _ _ _ x1 x2 (qry (m ((c : Thread nD τ).loc main_arg0)) (bat t) 3 0) (key (m ((c : Thread nD τ).loc main_arg0)) (bat t) 3 0) (vlu (m ((c : Thread nD τ).loc main_arg0)) (bat t) 3 0)
      (gat (m ((c : Thread nD τ).loc main_arg0)) (bat t) 3 0 x1 x2) (decay (m ((c : Thread nD τ).loc main_arg1)) 0 3) (decay (m ((c : Thread nD τ).loc main_arg1)) 1 3) (fun _ _ => 0) (bwd1 (m ((c : Thread nD τ).loc main_arg0)) (m ((c : Thread nD τ).loc main_arg1)) (bat t) 3) ?_ ?_ ?_ ?_ ?_ ?_ ?_ ?_ ?_).trans rfl
    · intro x
      open_payloads
      pointwise
      simp only [decay_sub, blk4, diff_word, fade_eq, fade_neg]
      rfl
    · intro d
      open_payloads
      pointwise
      simp only [decay_sub, blk4, pos_word]
      rfl
    · intro d
      open_payloads
      pointwise
      simp only [decay_sub, blk4, pos_word, word128, ← EReal.coe_sub]
      rfl
    · intro d
      simp only [half_read]
      open_payloads
      pointwise
      simp only [qry_ld, blk0, qry, chunk_zero, chunk_one, Fin.val_zero, zero_mul, zero_add]
      try rfl
    · intro x d
      simp only [half_read]
      open_payloads
      pointwise
      simp only [key_ld, blk1, key, chunk_zero, chunk_one, Fin.val_zero, zero_mul, zero_add]
      try rfl
    · intro x e
      pointwise
      simp only [b2, vlu, chunk_zero, chunk_one, Fin.val_zero, zero_mul, zero_add]
      try rfl
    · pointwise
      simp only [b3, gat, chunk_zero, chunk_one, Fin.val_zero, zero_mul, zero_add]
      try rfl
    · intro d hd e
      simp (disch := decide) only [View.readCov_skip, upper_skip, upper_read]
      open_payloads
      pointwise
      try rfl
    · intro d hd e
      simp (disch := decide) only [View.readCov_skip, lower_skip, lower_read]
      open_payloads
      pointwise
      simp only [half_read, decay_sub, key_ld, b2, blk4, pos_word, word127, word128, ← EReal.coe_sub, zero_add]
      simp only [bwd1, advance, key, vlu, chunk_zero, chunk_one, Fin.val_zero, zero_mul, zero_add, decay, over, toStart]
      try rfl
  case piece3 =>
    have b2 := blk2 m c t
    have b3 := blk3 m c t
    generalize X0_2 m c t = v at b2 ⊢
    generalize X0_3 m c t = g at b3 ⊢
    rw [retOut_at (m ((c : Thread nD τ).loc main_arg0)) (m ((c : Thread nD τ).loc main_arg1)) (bat t) 0 1 x1 x2 y1 y2 (by show y1.val = 128 * 1 + x1.val; omega) (by show y2.val = 256 * 0 + x2.val; omega)]
    refine (congrFun (p4 _ _ _ _ _ _ _ _) _).trans ?_
    refine (piece_at _ _ _ _ _ _ _ _ x1 x2 (qry (m ((c : Thread nD τ).loc main_arg0)) (bat t) 0 1) (key (m ((c : Thread nD τ).loc main_arg0)) (bat t) 0 1) (vlu (m ((c : Thread nD τ).loc main_arg0)) (bat t) 0 1)
      (gat (m ((c : Thread nD τ).loc main_arg0)) (bat t) 0 1 x1 x2) (decay (m ((c : Thread nD τ).loc main_arg1)) 0 0) (decay (m ((c : Thread nD τ).loc main_arg1)) 1 0) (fwd1 (m ((c : Thread nD τ).loc main_arg0)) (m ((c : Thread nD τ).loc main_arg1)) (bat t) 0) (fun _ _ => 0) ?_ ?_ ?_ ?_ ?_ ?_ ?_ ?_ ?_).trans rfl
    · intro x
      open_payloads
      pointwise
      simp only [decay_sub, blk4, diff_word, fade_eq, fade_neg]
      rfl
    · intro d
      open_payloads
      pointwise
      simp only [decay_sub, blk4, pos_word]
      rfl
    · intro d
      open_payloads
      pointwise
      simp only [decay_sub, blk4, pos_word, word128, ← EReal.coe_sub]
      rfl
    · intro d
      simp only [half_read]
      open_payloads
      pointwise
      simp only [qry_ld, blk0, qry, chunk_zero, chunk_one, Fin.val_zero, zero_mul, zero_add]
      try rfl
    · intro x d
      simp only [half_read]
      open_payloads
      pointwise
      simp only [key_ld, blk1, key, chunk_zero, chunk_one, Fin.val_zero, zero_mul, zero_add]
      try rfl
    · intro x e
      pointwise
      simp only [b2, vlu, chunk_zero, chunk_one, Fin.val_zero, zero_mul, zero_add]
      try rfl
    · pointwise
      simp only [b3, gat, chunk_zero, chunk_one, Fin.val_zero, zero_mul, zero_add]
      try rfl
    · intro d hd e
      simp (disch := decide) only [View.readCov_skip, upper_skip, upper_read]
      open_payloads
      pointwise
      simp only [half_read, decay_sub, key_ld, b2, blk4, pos_word, word127, word128, ← EReal.coe_sub, zero_add]
      simp only [fwd1, advance, key, vlu, chunk_zero, chunk_one, Fin.val_zero, zero_mul, zero_add, decay, over, toEnd]
      try rfl
    · intro d hd e
      simp (disch := decide) only [View.readCov_skip, lower_skip, lower_read]
      open_payloads
      pointwise
      try rfl
  case piece2 =>
    have b2 := blk2 m c t
    have b3 := blk3 m c t
    generalize X0_2 m c t = v at b2 ⊢
    generalize X0_3 m c t = g at b3 ⊢
    rw [retOut_at (m ((c : Thread nD τ).loc main_arg0)) (m ((c : Thread nD τ).loc main_arg1)) (bat t) 1 1 x1 x2 y1 y2 (by show y1.val = 128 * 1 + x1.val; omega) (by show y2.val = 256 * 1 + x2.val; omega)]
    refine (congrFun (p5 _ _ _ _ _ _ _ _) _).trans ?_
    refine (piece_at _ _ _ _ _ _ _ _ x1 x2 (qry (m ((c : Thread nD τ).loc main_arg0)) (bat t) 1 1) (key (m ((c : Thread nD τ).loc main_arg0)) (bat t) 1 1) (vlu (m ((c : Thread nD τ).loc main_arg0)) (bat t) 1 1)
      (gat (m ((c : Thread nD τ).loc main_arg0)) (bat t) 1 1 x1 x2) (decay (m ((c : Thread nD τ).loc main_arg1)) 0 1) (decay (m ((c : Thread nD τ).loc main_arg1)) 1 1) (fwd1 (m ((c : Thread nD τ).loc main_arg0)) (m ((c : Thread nD τ).loc main_arg1)) (bat t) 1) (fun _ _ => 0) ?_ ?_ ?_ ?_ ?_ ?_ ?_ ?_ ?_).trans rfl
    · intro x
      open_payloads
      pointwise
      simp only [decay_sub, blk4, diff_word, fade_eq, fade_neg]
      rfl
    · intro d
      open_payloads
      pointwise
      simp only [decay_sub, blk4, pos_word]
      rfl
    · intro d
      open_payloads
      pointwise
      simp only [decay_sub, blk4, pos_word, word128, ← EReal.coe_sub]
      rfl
    · intro d
      simp only [half_read]
      open_payloads
      pointwise
      simp only [qry_ld, blk0, qry, chunk_zero, chunk_one, Fin.val_zero, zero_mul, zero_add]
      try rfl
    · intro x d
      simp only [half_read]
      open_payloads
      pointwise
      simp only [key_ld, blk1, key, chunk_zero, chunk_one, Fin.val_zero, zero_mul, zero_add]
      try rfl
    · intro x e
      pointwise
      simp only [b2, vlu, chunk_zero, chunk_one, Fin.val_zero, zero_mul, zero_add]
      try rfl
    · pointwise
      simp only [b3, gat, chunk_zero, chunk_one, Fin.val_zero, zero_mul, zero_add]
      try rfl
    · intro d hd e
      simp (disch := decide) only [View.readCov_skip, upper_skip, upper_read]
      open_payloads
      pointwise
      simp only [half_read, decay_sub, key_ld, b2, blk4, pos_word, word127, word128, ← EReal.coe_sub, zero_add]
      simp only [fwd1, advance, key, vlu, chunk_zero, chunk_one, Fin.val_zero, zero_mul, zero_add, decay, over, toEnd]
      try rfl
    · intro d hd e
      simp (disch := decide) only [View.readCov_skip, lower_skip, lower_read]
      open_payloads
      pointwise
      try rfl
  case piece1 =>
    have b2 := blk2 m c t
    have b3 := blk3 m c t
    generalize X0_2 m c t = v at b2 ⊢
    generalize X0_3 m c t = g at b3 ⊢
    rw [retOut_at (m ((c : Thread nD τ).loc main_arg0)) (m ((c : Thread nD τ).loc main_arg1)) (bat t) 2 1 x1 x2 y1 y2 (by show y1.val = 128 * 1 + x1.val; omega) (by show y2.val = 256 * 2 + x2.val; omega)]
    refine (congrFun (p6 _ _ _ _ _ _ _ _) _).trans ?_
    refine (piece_at _ _ _ _ _ _ _ _ x1 x2 (qry (m ((c : Thread nD τ).loc main_arg0)) (bat t) 2 1) (key (m ((c : Thread nD τ).loc main_arg0)) (bat t) 2 1) (vlu (m ((c : Thread nD τ).loc main_arg0)) (bat t) 2 1)
      (gat (m ((c : Thread nD τ).loc main_arg0)) (bat t) 2 1 x1 x2) (decay (m ((c : Thread nD τ).loc main_arg1)) 0 2) (decay (m ((c : Thread nD τ).loc main_arg1)) 1 2) (fwd1 (m ((c : Thread nD τ).loc main_arg0)) (m ((c : Thread nD τ).loc main_arg1)) (bat t) 2) (fun _ _ => 0) ?_ ?_ ?_ ?_ ?_ ?_ ?_ ?_ ?_).trans rfl
    · intro x
      open_payloads
      pointwise
      simp only [decay_sub, blk4, diff_word, fade_eq, fade_neg]
      rfl
    · intro d
      open_payloads
      pointwise
      simp only [decay_sub, blk4, pos_word]
      rfl
    · intro d
      open_payloads
      pointwise
      simp only [decay_sub, blk4, pos_word, word128, ← EReal.coe_sub]
      rfl
    · intro d
      simp only [half_read]
      open_payloads
      pointwise
      simp only [qry_ld, blk0, qry, chunk_zero, chunk_one, Fin.val_zero, zero_mul, zero_add]
      try rfl
    · intro x d
      simp only [half_read]
      open_payloads
      pointwise
      simp only [key_ld, blk1, key, chunk_zero, chunk_one, Fin.val_zero, zero_mul, zero_add]
      try rfl
    · intro x e
      pointwise
      simp only [b2, vlu, chunk_zero, chunk_one, Fin.val_zero, zero_mul, zero_add]
      try rfl
    · pointwise
      simp only [b3, gat, chunk_zero, chunk_one, Fin.val_zero, zero_mul, zero_add]
      try rfl
    · intro d hd e
      simp (disch := decide) only [View.readCov_skip, upper_skip, upper_read]
      open_payloads
      pointwise
      simp only [half_read, decay_sub, key_ld, b2, blk4, pos_word, word127, word128, ← EReal.coe_sub, zero_add]
      simp only [fwd1, advance, key, vlu, chunk_zero, chunk_one, Fin.val_zero, zero_mul, zero_add, decay, over, toEnd]
      try rfl
    · intro d hd e
      simp (disch := decide) only [View.readCov_skip, lower_skip, lower_read]
      open_payloads
      pointwise
      try rfl
  case piece0 =>
    have b2 := blk2 m c t
    have b3 := blk3 m c t
    generalize X0_2 m c t = v at b2 ⊢
    generalize X0_3 m c t = g at b3 ⊢
    rw [retOut_at (m ((c : Thread nD τ).loc main_arg0)) (m ((c : Thread nD τ).loc main_arg1)) (bat t) 3 1 x1 x2 y1 y2 (by show y1.val = 128 * 1 + x1.val; omega) (by show y2.val = 256 * 3 + x2.val; omega)]
    refine (congrFun (p7 _ _ _ _ _ _ _ _) _).trans ?_
    refine (piece_at _ _ _ _ _ _ _ _ x1 x2 (qry (m ((c : Thread nD τ).loc main_arg0)) (bat t) 3 1) (key (m ((c : Thread nD τ).loc main_arg0)) (bat t) 3 1) (vlu (m ((c : Thread nD τ).loc main_arg0)) (bat t) 3 1)
      (gat (m ((c : Thread nD τ).loc main_arg0)) (bat t) 3 1 x1 x2) (decay (m ((c : Thread nD τ).loc main_arg1)) 0 3) (decay (m ((c : Thread nD τ).loc main_arg1)) 1 3) (fwd1 (m ((c : Thread nD τ).loc main_arg0)) (m ((c : Thread nD τ).loc main_arg1)) (bat t) 3) (fun _ _ => 0) ?_ ?_ ?_ ?_ ?_ ?_ ?_ ?_ ?_).trans rfl
    · intro x
      open_payloads
      pointwise
      simp only [decay_sub, blk4, diff_word, fade_eq, fade_neg]
      rfl
    · intro d
      open_payloads
      pointwise
      simp only [decay_sub, blk4, pos_word]
      rfl
    · intro d
      open_payloads
      pointwise
      simp only [decay_sub, blk4, pos_word, word128, ← EReal.coe_sub]
      rfl
    · intro d
      simp only [half_read]
      open_payloads
      pointwise
      simp only [qry_ld, blk0, qry, chunk_zero, chunk_one, Fin.val_zero, zero_mul, zero_add]
      try rfl
    · intro x d
      simp only [half_read]
      open_payloads
      pointwise
      simp only [key_ld, blk1, key, chunk_zero, chunk_one, Fin.val_zero, zero_mul, zero_add]
      try rfl
    · intro x e
      pointwise
      simp only [b2, vlu, chunk_zero, chunk_one, Fin.val_zero, zero_mul, zero_add]
      try rfl
    · pointwise
      simp only [b3, gat, chunk_zero, chunk_one, Fin.val_zero, zero_mul, zero_add]
      try rfl
    · intro d hd e
      simp (disch := decide) only [View.readCov_skip, upper_skip, upper_read]
      open_payloads
      pointwise
      simp only [half_read, decay_sub, key_ld, b2, blk4, pos_word, word127, word128, ← EReal.coe_sub, zero_add]
      simp only [fwd1, advance, key, vlu, chunk_zero, chunk_one, Fin.val_zero, zero_mul, zero_add, decay, over, toEnd]
      try rfl
    · intro d hd e
      simp (disch := decide) only [View.readCov_skip, lower_skip, lower_read]
      open_payloads
      pointwise
      try rfl

end Cert.KernelIdeal.Hand
-- ==== Proof.RetRef.lean ====
/-
  What the retention call's reference computes: its two results at an index are `Cert.Layer.retOut` and `retState`.
-/
module

public import proofs.«01_k».proof.Proof.Gen.ReferenceIdeal.Run
public import proofs.«01_k».proof.Proof.RetSpec
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.ReferenceIdeal.Hand
open Cert.ReferenceIdeal Cert.ReferenceIdeal.Gen Cert.ReferenceIdeal.Value Cert.Layer

variable (V0 : Valuation τ sig (Elt Ideal))

/-- The two arguments. -/
abbrev pm : S16x256x7680.Idx → EReal := V0 (Proc.devRef .tc main_arg0)
abbrev rd : S2x4.Idx → EReal := V0 (Proc.devRef .tc main_arg1)

theorem lgF (h : Fin 4) : (res_main_v13 (F := Ideal) V0 (ix1 h) : EReal) = decay (rd V0) 0 h := by
  unfold res_main_v13 res_main_v11 res_main_call0_v3 res_main_call0_cst res_main_v9
  clean_types
  pointwise
  simp only [ne_eq, not_true_eq_false, if_false]
  rfl
theorem lgB (h : Fin 4) : (res_main_v110 (F := Ideal) V0 (ix1 h) : EReal) = decay (rd V0) 1 h := by
  unfold res_main_v110 res_main_v11 res_main_call0_v3 res_main_call0_cst res_main_v9
  clean_types
  pointwise
  simp only [ne_eq, not_true_eq_false, if_false]
  rfl

theorem inF (h : Fin 4) (i j : Fin 128) : (res_main_v31 (F := Ideal) V0 (ix3 h i j) : EReal) = fade (decay (rd V0) 0 h) (i.val - j.val) := by
  unfold res_main_v31 res_main_v20 res_main_v15
  clean_types
  pointwise
  simp only [lgF, pos_word, ← EReal.coe_sub]
  rw [← fade_eq]
  have z : id (constant (F := Ideal) S_ .f32 0#32) ix0 = (0 : EReal) := by
    show (Ideal.ofBits .f32 0#32 : EReal) = 0
    exact Ideal.ofBits_zero .f32
  rw [z]
theorem inB (h : Fin 4) (i j : Fin 128) : (res_main_v128 (F := Ideal) V0 (ix3 h i j) : EReal) = fade (decay (rd V0) 1 h) (i.val - j.val) := by
  unfold res_main_v128 res_main_v117 res_main_v112
  clean_types
  pointwise
  simp only [lgB, pos_word, ← EReal.coe_sub]
  rw [← fade_eq]
  have z : id (constant (F := Ideal) S_ .f32 0#32) ix0 = (0 : EReal) := by
    show (Ideal.ofBits .f32 0#32 : EReal) = 0
    exact Ideal.ofBits_zero .f32
  rw [z]
theorem dqF (h : Fin 4) (i : Fin 128) : (res_main_v40 (F := Ideal) V0 (ix3 h i 0) : EReal) = over (decay (rd V0) 0 h) (i.val + 1) := by
  unfold res_main_v40 res_main_v15
  clean_types
  pointwise
  simp only [lgF, pos_word]
  rfl
theorem dqB (h : Fin 4) (i : Fin 128) : (res_main_v137 (F := Ideal) V0 (ix3 h i 0) : EReal) = over (decay (rd V0) 1 h) (i.val + 1) := by
  unfold res_main_v137 res_main_v112
  clean_types
  pointwise
  simp only [lgB, pos_word]
  rfl
theorem dkF (h : Fin 4) (i : Fin 128) : (res_main_v49 (F := Ideal) V0 (ix3 h i 0) : EReal) = over (decay (rd V0) 0 h) (toEnd i) := by
  unfold res_main_v49 res_main_v15
  clean_types
  pointwise
  simp only [lgF, pos_word, word127, ← EReal.coe_sub]
  rfl
theorem dkB (h : Fin 4) (i : Fin 128) : (res_main_v146 (F := Ideal) V0 (ix3 h i 0) : EReal) = over (decay (rd V0) 1 h) (toEnd i) := by
  unfold res_main_v146 res_main_v112
  clean_types
  pointwise
  simp only [lgB, pos_word, word127, ← EReal.coe_sub]
  rfl
theorem dcF (h : Fin 4) : (res_main_v53 (F := Ideal) V0 (ix3 h 0 0) : EReal) = over (decay (rd V0) 0 h) 128 := by
  unfold res_main_v53
  clean_types
  pointwise
  simp only [lgF, word128]
  rfl
theorem dcB (h : Fin 4) : (res_main_v150 (F := Ideal) V0 (ix3 h 0 0) : EReal) = over (decay (rd V0) 1 h) 128 := by
  unfold res_main_v150
  clean_types
  pointwise
  simp only [lgB, word128]
  rfl

/-- The reversed sequences. -/
theorem rev3 (b : Fin 16) (r : Fin 256) (h : Fin 4) (d : Fin 128) : (res_main_v106 (F := Ideal) V0 (ix4 b r h d) : EReal) = res_main_v3 (F := Ideal) V0 (ix4 b r.rev h d) := by
  show (res_main_v3 (F := Ideal) V0 _ : EReal) = _
  congr 1
  funext a
  fin_cases a <;> rfl
theorem rev5 (b : Fin 16) (r : Fin 256) (h : Fin 4) (d : Fin 128) : (res_main_v107 (F := Ideal) V0 (ix4 b r h d) : EReal) = res_main_v5 (F := Ideal) V0 (ix4 b r.rev h d) := by
  show (res_main_v5 (F := Ideal) V0 _ : EReal) = _
  congr 1
  funext a
  fin_cases a <;> rfl
theorem rev7 (b : Fin 16) (r : Fin 256) (h : Fin 4) (d : Fin 256) : (res_main_v108 (F := Ideal) V0 (ix4 b r h d) : EReal) = res_main_v7 (F := Ideal) V0 (ix4 b r.rev h d) := by
  show (res_main_v7 (F := Ideal) V0 _ : EReal) = _
  congr 1
  funext a
  fin_cases a <;> rfl

/-- The sequences, one head's row of a batch. -/
theorem at3 (b : Fin 16) (h : Fin 4) (c : Fin 2) (i : Fin 128) (d : Fin 128) (r : Fin 256) (hr : r.val = 128 * c.val + i.val) : (res_main_v3 (F := Ideal) V0 (ix4 b r h d) : EReal) = qry (pm V0) b h c i d := by
  unfold res_main_v3
  clean_types
  pointwise
  unfold qry
  congr 4
  exact Fin.ext hr
theorem at5 (b : Fin 16) (h : Fin 4) (c : Fin 2) (i : Fin 128) (d : Fin 128) (r : Fin 256) (hr : r.val = 128 * c.val + i.val) : (res_main_v5 (F := Ideal) V0 (ix4 b r h d) : EReal) = key (pm V0) b h c i d := by
  unfold res_main_v5
  clean_types
  pointwise
  unfold key
  congr 3
  exact Fin.ext hr
theorem at7 (b : Fin 16) (h : Fin 4) (c : Fin 2) (i : Fin 128) (d : Fin 256) (r : Fin 256) (hr : r.val = 128 * c.val + i.val) : (res_main_v7 (F := Ideal) V0 (ix4 b r h d) : EReal) = vlu (pm V0) b h c i d := by
  unfold res_main_v7
  clean_types
  pointwise
  unfold vlu
  congr 3
  exact Fin.ext hr

theorem q0 (b : Fin 16) (h : Fin 4) (i : Fin 128) (d : Fin 128) : (res_main_v56 (F := Ideal) V0 (ix4 b h i d) : EReal) = qry (pm V0) b h 0 i d := by
  unfold res_main_v56
  clean_types
  pointwise
  refine at3 V0 b h 0 i d _ ?_
  simp
theorem q1 (b : Fin 16) (h : Fin 4) (i : Fin 128) (d : Fin 128) : (res_main_v81 (F := Ideal) V0 (ix4 b h i d) : EReal) = qry (pm V0) b h 1 i d := by
  unfold res_main_v81
  clean_types
  pointwise
  refine at3 V0 b h 1 i d _ ?_
  simp
theorem qr0 (b : Fin 16) (h : Fin 4) (i : Fin 128) (d : Fin 128) : (res_main_v153 (F := Ideal) V0 (ix4 b h i d) : EReal) = qry (pm V0) b h 1 i.rev d := by
  unfold res_main_v153
  clean_types
  pointwise
  refine (rev3 V0 _ _ _ _).trans (at3 V0 b h 1 i.rev d _ ?_)
  simp only [Fin.val_rev, Fin.val_zero, Fin.val_one]
  omega
theorem qr1 (b : Fin 16) (h : Fin 4) (i : Fin 128) (d : Fin 128) : (res_main_v178 (F := Ideal) V0 (ix4 b h i d) : EReal) = qry (pm V0) b h 0 i.rev d := by
  unfold res_main_v178
  clean_types
  pointwise
  refine (rev3 V0 _ _ _ _).trans (at3 V0 b h 0 i.rev d _ ?_)
  simp only [Fin.val_rev, Fin.val_zero, Fin.val_one]
  omega
theorem k0 (b : Fin 16) (h : Fin 4) (i : Fin 128) (d : Fin 128) : (res_main_v58 (F := Ideal) V0 (ix4 b h i d) : EReal) = key (pm V0) b h 0 i d := by
  unfold res_main_v58
  clean_types
  pointwise
  refine at5 V0 b h 0 i d _ ?_
  simp
theorem k1 (b : Fin 16) (h : Fin 4) (i : Fin 128) (d : Fin 128) : (res_main_v83 (F := Ideal) V0 (ix4 b h i d) : EReal) = key (pm V0) b h 1 i d := by
  unfold res_main_v83
  clean_types
  pointwise
  refine at5 V0 b h 1 i d _ ?_
  simp
theorem kr0 (b : Fin 16) (h : Fin 4) (i : Fin 128) (d : Fin 128) : (res_main_v155 (F := Ideal) V0 (ix4 b h i d) : EReal) = key (pm V0) b h 1 i.rev d := by
  unfold res_main_v155
  clean_types
  pointwise
  refine (rev5 V0 _ _ _ _).trans (at5 V0 b h 1 i.rev d _ ?_)
  simp only [Fin.val_rev, Fin.val_zero, Fin.val_one]
  omega
theorem kr1 (b : Fin 16) (h : Fin 4) (i : Fin 128) (d : Fin 128) : (res_main_v180 (F := Ideal) V0 (ix4 b h i d) : EReal) = key (pm V0) b h 0 i.rev d := by
  unfold res_main_v180
  clean_types
  pointwise
  refine (rev5 V0 _ _ _ _).trans (at5 V0 b h 0 i.rev d _ ?_)
  simp only [Fin.val_rev, Fin.val_zero, Fin.val_one]
  omega
theorem v0 (b : Fin 16) (h : Fin 4) (i : Fin 128) (d : Fin 256) : (res_main_v60 (F := Ideal) V0 (ix4 b h i d) : EReal) = vlu (pm V0) b h 0 i d := by
  unfold res_main_v60
  clean_types
  pointwise
  refine at7 V0 b h 0 i d _ ?_
  simp
theorem v1 (b : Fin 16) (h : Fin 4) (i : Fin 128) (d : Fin 256) : (res_main_v85 (F := Ideal) V0 (ix4 b h i d) : EReal) = vlu (pm V0) b h 1 i d := by
  unfold res_main_v85
  clean_types
  pointwise
  refine at7 V0 b h 1 i d _ ?_
  simp
theorem vr0 (b : Fin 16) (h : Fin 4) (i : Fin 128) (d : Fin 256) : (res_main_v157 (F := Ideal) V0 (ix4 b h i d) : EReal) = vlu (pm V0) b h 1 i.rev d := by
  unfold res_main_v157
  clean_types
  pointwise
  refine (rev7 V0 _ _ _ _).trans (at7 V0 b h 1 i.rev d _ ?_)
  simp only [Fin.val_rev, Fin.val_zero, Fin.val_one]
  omega
theorem vr1 (b : Fin 16) (h : Fin 4) (i : Fin 128) (d : Fin 256) : (res_main_v182 (F := Ideal) V0 (ix4 b h i d) : EReal) = vlu (pm V0) b h 0 i.rev d := by
  unfold res_main_v182
  clean_types
  pointwise
  refine (rev7 V0 _ _ _ _).trans (at7 V0 b h 0 i.rev d _ ?_)
  simp only [Fin.val_rev, Fin.val_zero, Fin.val_one]
  omega

theorem s0 (b : Fin 16) (h : Fin 4) (d : Fin 128) (e : Fin 256) : @Eq EReal (res_main_v54 (F := Ideal) V0 (ix4 b h d e)) 0 := by
  unfold res_main_v54
  clean_types
  pointwise
theorem sr0 (b : Fin 16) (h : Fin 4) (d : Fin 128) (e : Fin 256) : @Eq EReal (res_main_v151 (F := Ideal) V0 (ix4 b h d e)) 0 := by
  unfold res_main_v151
  clean_types
  pointwise
theorem s1 (b : Fin 16) (h : Fin 4) (d : Fin 128) (e : Fin 256) : (res_main_v78 (F := Ideal) V0 (ix4 b h d e) : EReal) = fwd1 (pm V0) (rd V0) b h d e := by
  unfold res_main_v78
  clean_types
  pointwise
  simp only [s0, dcF, k0, dkF, v0]
  rfl
theorem sr1 (b : Fin 16) (h : Fin 4) (d : Fin 128) (e : Fin 256) : (res_main_v175 (F := Ideal) V0 (ix4 b h d e) : EReal) = bwd1 (pm V0) (rd V0) b h d e := by
  unfold res_main_v175
  clean_types
  pointwise
  simp only [sr0, dcB, kr0, dkB, vr0]
  unfold bwd1
  rw [← advance_rev]
  rfl

/-- An array reversed along the sequence, at an index. -/
theorem rev_at (x : FVec Ideal S16x256x4x256 .f32) (b : Fin 16) (r : Fin 256) (h : Fin 4) (e : Fin 256) :
    (Host.reverse [1] x (ix4 b r h e) : EReal) = x (ix4 b r.rev h e) := by
  show (x _ : EReal) = _
  congr 1
  funext a
  fin_cases a <;> rfl

theorem rev_lo (i : Fin 128) (hi : i.val < 256) : (⟨i.val, hi⟩ : Fin 256).rev = ⟨128 + i.rev.val, by omega⟩ := by
  apply Fin.ext
  simp only [Fin.val_rev]
  omega
theorem rev_hi (i : Fin 128) (hi : 128 + i.val < 256) : (⟨128 + i.val, hi⟩ : Fin 256).rev = ⟨i.rev.val, by omega⟩ := by
  apply Fin.ext
  simp only [Fin.val_rev]
  omega

theorem row0 (b : Fin 16) (h : Fin 4) (i : Fin 128) (e : Fin 256) (hi : i.val < 256) : (res_main_v204 (F := Ideal) V0 (ix4 b ⟨i.val, hi⟩ h e) : EReal) =
    headRow (pm V0) (rd V0) b h 0 i e := by
  unfold res_main_v204
  clean_types
  refine (congrArg (fun z : EReal => (_ : EReal) + z) (rev_at _ b _ h e)).trans ?_
  rw [rev_lo]
  pointwise
  simp only [q0, k0, v0, qr1, kr1, vr1, inF, inB, dqF, dqB, s0, sr1]
  exact oneWay_add (qry (pm V0) b h 0) (key (pm V0) b h 0) (vlu (pm V0) b h 0) (decay (rd V0) 0 h) (decay (rd V0) 1 h) (fun _ _ => 0) (bwd1 (pm V0) (rd V0) b h) i e
theorem row1 (b : Fin 16) (h : Fin 4) (i : Fin 128) (e : Fin 256) (hi : 128 + i.val < 256) : (res_main_v204 (F := Ideal) V0 (ix4 b ⟨128 + i.val, hi⟩ h e) : EReal) =
    headRow (pm V0) (rd V0) b h 1 i e := by
  unfold res_main_v204
  clean_types
  refine (congrArg (fun z : EReal => (_ : EReal) + z) (rev_at _ b _ h e)).trans ?_
  rw [rev_hi]
  pointwise
  simp only [q1, k1, v1, qr0, kr0, vr0, inF, inB, dqF, dqB, s1, sr0]
  exact oneWay_add (qry (pm V0) b h 1) (key (pm V0) b h 1) (vlu (pm V0) b h 1) (decay (rd V0) 0 h) (decay (rd V0) 1 h) (fwd1 (pm V0) (rd V0) b h) (fun _ _ => 0) i e

theorem row (b : Fin 16) (h : Fin 4) (r : Fin 256) (e : Fin 256) : (res_main_v204 (F := Ideal) V0 (ix4 b r h e) : EReal) =
    headRow (pm V0) (rd V0) b h ⟨r.val / 128, by omega⟩ ⟨r.val % 128, by omega⟩ e := by
  by_cases hr : r.val < 128
  · have e1 : (⟨r.val / 128, by omega⟩ : Fin 2) = 0 := Fin.ext (by show r.val / 128 = 0; omega)
    have e2 : (⟨r.val % 128, by omega⟩ : Fin 128) = ⟨r.val, hr⟩ := Fin.ext (by show r.val % 128 = r.val; omega)
    rw [e1, e2]
    exact row0 V0 b h ⟨r.val, hr⟩ e r.isLt
  · have e1 : (⟨r.val / 128, by omega⟩ : Fin 2) = 1 := Fin.ext (by show r.val / 128 = 1; omega)
    have e2 : (⟨r.val % 128, by omega⟩ : Fin 128) = ⟨r.val - 128, by omega⟩ := Fin.ext (by show r.val % 128 = r.val - 128; omega)
    have e3 : r = ⟨128 + (r.val - 128), by omega⟩ := Fin.ext (by show r.val = 128 + (r.val - 128); omega)
    rw [e1, e2]
    refine (congrArg (fun z => (res_main_v204 (F := Ideal) V0 (ix4 b z h e) : EReal)) e3).trans ?_
    exact row1 V0 b h ⟨r.val - 128, by omega⟩ e (by show 128 + (r.val - 128) < 256; omega)

theorem gate_at (b : Fin 16) (h : Fin 4) (c : Fin 2) (i : Fin 128) (e : Fin 256) (r : Fin 256) (j : Fin 1024) (hr : r.val = 128 * c.val + i.val) (hj : j.val = h.val * 256 + e.val) : (res_main_v8 (F := Ideal) V0 (ix3 b r j) : EReal) =
    gat (pm V0) b h c i e := by
  unfold res_main_v8
  clean_types
  pointwise
  unfold gat
  congr 2
  · exact Fin.ext hr
  · exact Fin.ext (by show 3072 + j.val = _; rw [hj])

/-- The rows less their means. -/
theorem centred (b : Fin 16) (h : Fin 4) (r : Fin 256) (e : Fin 256) : (res_main_v210 (F := Ideal) V0 (ix4 b r h e) : EReal) =
    headRow (pm V0) (rd V0) b h ⟨r.val / 128, by omega⟩ ⟨r.val % 128, by omega⟩ e
      - Ideal.div (∑ x, headRow (pm V0) (rd V0) b h ⟨r.val / 128, by omega⟩ ⟨r.val % 128, by omega⟩ x) headWidth := by
  unfold res_main_v210
  clean_types
  pointwise
  simp only [row]

/-- The reference leaves the call's results. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v229) = (fun i : S16x256x1024.Idx => retOut (m ((c.tc : Thread nD τ).loc main_arg0)) (m ((c.tc : Thread nD τ).loc main_arg1)) (i 0) (i 1) (i 2))
      ∧ r.2.mem ((c.tc : Thread nD τ).loc main_v232) = (fun i : S16x2x4x128x256.Idx => retState (m ((c.tc : Thread nD τ).loc main_arg0)) (m ((c.tc : Thread nD τ).loc main_arg1)) (i 0) (i 1) (i 2) (i 3) (i 4))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2.1.trans ?_, (h c).2.2⟩) (run m ρ)
  · funext i
    idx_vars i
    pointwise
    simp only [centred]
    rw [gate_at (StableHlo.launchContents m c) i0 ⟨i2.val / 256, by omega⟩ ⟨i1.val / 128, by omega⟩ ⟨i1.val % 128, by omega⟩ ⟨i2.val % 256, by omega⟩ i1 i2 (by show i1.val = _; dsimp only; omega) (by show i2.val = _; dsimp only; omega)]
    rfl
  · funext i
    idx_vars i
    pointwise
    simp only [s1, dcF, k1, dkF, v1, sr1, dcB, kr1, dkB, vr1]
    unfold retState bwd2
    rw [← advance_rev]
    have e : (i1.val < 1) = (i1 = 0) := propext ⟨fun h => Fin.ext (by show i1.val = 0; omega), fun h => by rw [h]; decide⟩
    by_cases h0 : i1 = 0
    · rw [dif_pos (e ▸ h0), if_pos h0]
      rfl
    · rw [dif_neg (e ▸ h0), if_neg h0]
      rfl

end Cert.ReferenceIdeal.Hand
-- ==== Proof.Retention.lean ====
/-
  The retention call's claims.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.RetOut
public import proofs.«01_k».proof.Proof.RetRef
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem

namespace Cert.Proof

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Both programs leave the gated head norms and the final states of the same arguments. -/
theorem algebraic1 : Cert.algebraic_KernelIdeal_ReferenceIdeal := by
  intro m g m' g' _ hargs
  refine ⟨fun c => fun i : Cert.KernelIdeal.S16x256x1024.Idx => Cert.Layer.retOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (i 0) (i 1) (i 2),
    fun c => fun i : Cert.KernelIdeal.S16x2x4x128x256.Idx => Cert.Layer.retState (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (i 0) (i 1) (i 2) (i 3) (i 4), ?_, ?_⟩
  · refine (θ_run _ _ _).mono (fun r h c => ?_) (Cert.KernelIdeal.Value.run_blocks m g)
    exact ⟨(h c).1.trans (Cert.KernelIdeal.Hand.final5 m c), (h c).2.1.trans (Cert.KernelIdeal.Hand.final6 m c), (h c).2.2⟩
  · refine (θ_run _ _ _).mono (fun r h c => ⟨(h c).1.trans ?_, (h c).2.1.trans ?_, (h c).2.2⟩) (Cert.ReferenceIdeal.Hand.run_spec m' g')
    · obtain ⟨e0, e1⟩ := hargs c
      rw [e0, e1]
    · obtain ⟨e0, e1⟩ := hargs c
      rw [e0, e1]

end Cert.Proof

end
-- ==== Proof.SampleSpec.lean ====
/-
  The output call on the sample batch as mathematics: the same row of `Cert.Layer.output`, each sample under its own condition.
-/
module

public import proofs.«01_k».proof.Proof.MergeSpec

@[expose] public section

noncomputable section

namespace Cert.Layer

open Idealize.ShloMosaic

/-- Row `r` of a [4, 2048, 1024] array, its two leading axes merged. -/
abbrev seqRows (A : (⟨3, ![4, 2048, 1024]⟩ : Shape).Idx → EReal) (r : Fin 8192) (k : Fin 1024) : EReal :=
  A (ix3 ⟨r.val / 2048, by omega⟩ ⟨r.val % 2048, by omega⟩ k)

/-- The condition's row for row `r`. -/
abbrev cond (r : Fin 8192) : Fin 8 := ⟨1 + r.val / 2048, by omega⟩

/-- The call's result at row `r`, column `j`, of its arguments, the attention branch's columns by group. -/
def sampleCall (x ro lo ao : (⟨3, ![4, 2048, 1024]⟩ : Shape).Idx → EReal) (md : (⟨2, ![8, 3072]⟩ : Shape).Idx → EReal)
    (g gpost : (⟨1, ![1024]⟩ : Shape).Idx → EReal) (wm : (⟨2, ![1024, 3072]⟩ : Shape).Idx → EReal)
    (bm : (⟨1, ![3072]⟩ : Shape).Idx → EReal) (wb : (⟨3, ![3, 1024, 1024]⟩ : Shape).Idx → EReal)
    (wo : (⟨2, ![1024, 1024]⟩ : Shape).Idx → EReal) (r : Fin 8192) (j : Fin 1024) : EReal :=
  output (seqRows x r) (fun k => g (ix1 k)) (fun k => md (ix2 (cond r) (third 1 k))) (fun k => md (ix2 (cond r) (third 0 k)))
    (fun k => md (ix2 (cond r) (third 2 k))) (fun k => gpost (ix1 k))
    (fun n => match n with
      | 0 => vecMat (seqRows ro r) fun k j => wb (ix3 0 k j)
      | 1 => vecMat (seqRows lo r) fun k j => wb (ix3 1 k j)
      | 2 => vecMat (fun k => seqRows ao r (bySwap k)) fun k j => wb (ix3 2 k j))
    (fun n k j => wm (ix2 k (third n j))) (fun n k => bm (ix1 (third n k))) (fun k j => wo (ix2 k j)) j

end Cert.Layer
-- ==== Proof.SampleMergeBlocks.lean ====
/-
  The sample batch's output call's blocks: what each input window holds at a grid point, at an index, of the arguments.
-/
module

public import proofs.«01_k».proof.Proof.Gen.Kernel5Ideal.Frame
public import proofs.«01_k».proof.Proof.SampleSpec
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.Hand
open Cert.Kernel5Ideal Cert.Kernel5Ideal.Gen Cert.Layer

variable (m : (ℓ : Loc nD τ sig) → Buf (Elt Ideal) ℓ)

/-- The windows' blocks: five move with the point, the condition with the sample, the rest stay. -/
theorem idx : ∀ t : Fin cfg0.N, win0_0.index t = ![t.val, 0] ∧ win0_1.index t = ![t.val, 0] ∧ win0_2.index t = ![t.val, 0]
    ∧ win0_3.index t = ![t.val, 0] ∧ win0_4.index t = ![1 + t.val / 4, 0, 0] ∧ win0_5.index t = ![0, 0] ∧ win0_6.index t = ![0, 0]
    ∧ win0_7.index t = ![0, 0] ∧ win0_8.index t = ![0, 0] ∧ win0_9.index t = ![0, 0, 0] ∧ win0_10.index t = ![0, 0]
    ∧ win0_11.index t = ![t.val, 0] := by decide +kernel

/-- The array's row under row `p` of point `t`'s block. -/
abbrev row (t : Fin cfg0.N) (p : Fin 512) : Fin 8192 := ⟨512 * t.val + p.val, by have : t.val < 16 := t.isLt; omega⟩

/-- The condition's row at point `t`: four points a sample. -/
abbrev condAt (t : Fin cfg0.N) : Fin 8 := ⟨1 + t.val / 4, by have : t.val < 16 := t.isLt; omega⟩

theorem cond_row (t : Fin cfg0.N) (p : Fin 512) : cond (row t p) = condAt t := by
  apply Fin.ext
  show 1 + (512 * t.val + p.val) / 2048 = 1 + t.val / 4
  omega

/-- The branch weights as the call's host lines leave them: the third branch's rows reordered. -/
theorem V13 (c : Dev nD) (n : Fin 3) (k j : Fin 1024) : (V m c main_v13 (ix3 n k j) : EReal) =
    (m ((c : Thread nD τ).loc main_arg9) (ix3 n (if n = 2 then bySwap k else k) j) : EReal) := by
  unfold V
  after_reads_at
  fin_cases n
  · after_reads_at
  · after_reads_at
  · after_reads_at
    rfl

theorem blk0 (c : Dev nD) (t : Fin cfg0.N) (p : Fin 512) (q : Fin 1024) : (iblk m c 0 t (ix2 p q) : EReal) =
    seqRows (m ((c : Thread nD τ).loc main_arg0)) (row t p) q := by
  blk_ext! [iblk, V, idx t]
theorem blk1 (c : Dev nD) (t : Fin cfg0.N) (p : Fin 512) (q : Fin 1024) : (iblk m c 1 t (ix2 p q) : EReal) =
    seqRows (m ((c : Thread nD τ).loc main_arg1)) (row t p) q := by
  blk_ext! [iblk, V, idx t]
theorem blk2 (c : Dev nD) (t : Fin cfg0.N) (p : Fin 512) (q : Fin 1024) : (iblk m c 2 t (ix2 p q) : EReal) =
    seqRows (m ((c : Thread nD τ).loc main_arg2)) (row t p) q := by
  blk_ext! [iblk, V, idx t]
theorem blk3 (c : Dev nD) (t : Fin cfg0.N) (p : Fin 512) (q : Fin 1024) : (iblk m c 3 t (ix2 p q) : EReal) =
    seqRows (m ((c : Thread nD τ).loc main_arg3)) (row t p) q := by
  blk_ext! [iblk, V, idx t]
theorem blk4 (c : Dev nD) (t : Fin cfg0.N) (q : Fin 3072) : (iblk m c 4 t (ix3 0 0 q) : EReal) =
    m ((c : Thread nD τ).loc main_arg4) (ix2 (condAt t) q) := by
  blk_ext! [iblk, V, idx t]
theorem blk5 (c : Dev nD) (t : Fin cfg0.N) (q : Fin 1024) : (iblk m c 5 t (ix2 0 q) : EReal) =
    m ((c : Thread nD τ).loc main_arg5) (ix1 q) := by
  blk_ext! [iblk, V, idx t]
theorem blk6 (c : Dev nD) (t : Fin cfg0.N) (q : Fin 1024) : (iblk m c 6 t (ix2 0 q) : EReal) =
    m ((c : Thread nD τ).loc main_arg6) (ix1 q) := by
  blk_ext! [iblk, V, idx t]
theorem blk7 (c : Dev nD) (t : Fin cfg0.N) (k : Fin 1024) (q : Fin 3072) : (iblk m c 7 t (ix2 k q) : EReal) =
    m ((c : Thread nD τ).loc main_arg7) (ix2 k q) := by
  blk_ext! [iblk, V, idx t]
theorem blk8 (c : Dev nD) (t : Fin cfg0.N) (q : Fin 3072) : (iblk m c 8 t (ix2 0 q) : EReal) =
    m ((c : Thread nD τ).loc main_arg8) (ix1 q) := by
  blk_ext! [iblk, V, idx t]
theorem blk9 (c : Dev nD) (t : Fin cfg0.N) (n : Fin 3) (k j : Fin 1024) : (iblk m c 9 t (ix3 n k j) : EReal) =
    m ((c : Thread nD τ).loc main_arg9) (ix3 n (if n = 2 then bySwap k else k) j) := by
  refine Eq.trans ?_ (V13 m c n k j)
  blk_ext [iblk, idx t]
theorem blk10 (c : Dev nD) (t : Fin cfg0.N) (k q : Fin 1024) : (iblk m c 10 t (ix2 k q) : EReal) =
    m ((c : Thread nD τ).loc main_arg10) (ix2 k q) := by
  blk_ext! [iblk, V, idx t]

end Cert.Kernel5Ideal.Hand
-- ==== Proof.SampleMergeKernel.lean ====
/-
  What the sample batch's output call's kernel leaves: its result array at an index is `Cert.Layer.output` of the arguments.
-/
module

public import proofs.«01_k».proof.Proof.Gen.Kernel5Ideal.Value
public import proofs.«01_k».proof.Proof.SampleMergeBlocks
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.Hand
open Cert.Kernel5Ideal Cert.Kernel5Ideal.Gen Cert.Layer

variable (m : (ℓ : Loc nD τ sig) → Buf (Elt Ideal) ℓ)

/-- The modulated norm of row `r` of the arguments. -/
def hid (c : Dev nD) (r : Fin 8192) : Fin 1024 → EReal :=
  hidden (seqRows (m ((c : Thread nD τ).loc main_arg0)) r)
    (fun k => m ((c : Thread nD τ).loc main_arg5) (ix1 k))
    (fun k => m ((c : Thread nD τ).loc main_arg4) (ix2 (cond r) (third 1 k)))
    (fun k => m ((c : Thread nD τ).loc main_arg4) (ix2 (cond r) (third 0 k)))

/-- The gated row before the output projection, of the blocks. -/
theorem hidden_eq (c : Dev nD) (t : Fin cfg0.N) (p : Fin 512) (k : Fin 1024) :
    (k0_pay3 (iblk m c 0 t) (iblk m c 4 t) (iblk m c 5 t) (ix2 p k) : EReal) = hid m c (row t p) k := by
  pointwise [k0_pay3, k0_pay2, k0_pay1]
  simp only [blk0, blk4, blk5, hid, cond_row]
  rfl

/-- The same rows under the name the run gives them where the later gates read them. -/
theorem hidden_named (c : Dev nD) (t : Fin cfg0.N) (p : Fin 512) (k : Fin 1024) :
    (k0_pay10 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 p k) : EReal) = hid m c (row t p) k := by
  pointwise [k0_pay10, k0_pay3, k0_pay2, k0_pay1]
  simp only [blk0, blk4, blk5, hid, cond_row]
  rfl

/-- The attention branch against rows in the block's order is the reordered columns against the rows as given. -/
theorem swapped (c : Dev nD) (r : Fin 8192) (j : Fin 1024) :
    (∑ k, seqRows (m ((c : Thread nD τ).loc main_arg3)) r k * m ((c : Thread nD τ).loc main_arg9) (ix3 2 (bySwap k) j) : EReal)
      = ∑ k, seqRows (m ((c : Thread nD τ).loc main_arg3)) r (bySwap k) * m ((c : Thread nD τ).loc main_arg9) (ix3 2 k j) := by
  rw [← sum_bySwap]
  simp only [bySwap_bySwap]

/-- The result array: row `r`, column `j` is the output of the arguments there. -/
theorem final (c : Dev nD) :
    (dats m 0 c).arrAt 11 cfg0.N = fun i : S8192x1024.Idx => sampleCall (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1) := by
  refine (dats m 0 c).arrAt_eq_of_covers 11 _ (by decide +kernel) fun t hf y => ?_
  blk_simp
  rw [after0_11]
  frame_out
  idx_vars y
  have e : (((cfg0.win 11).blk t).view.emb (ix2 y0 y1) : S8192x1024.Idx) = ix2 (row t y0) y1 := by
    blk_ext [idx t]
  have e0 : ((View.whole main_v24).slice (win0_11.rect t)).emb (ix2 y0 y1) = (ix2 (row t y0) y1 : S8192x1024.Idx) := e
  rw [e0]
  pointwise [k0_pay9, k0_pay8, k0_pay7, k0_pay6, k0_pay5, k0_pay4, k0_pay2, k0_pay1]
  have n0 : ((0 : Fin 3) = 2) = False := by decide
  have n1 : ((1 : Fin 3) = 2) = False := by decide
  simp only [hidden_eq, hidden_named, sigmoid_eq, blk0, blk1, blk2, blk3, blk4, blk6, blk7, blk8, blk9, blk10, n0, n1, if_true,
    if_false, swapped]
  simp only [sampleCall, output, rms, vecMat, merged, gate, third, hid, cond_row]

end Cert.Kernel5Ideal.Hand
-- ==== Proof.SampleMergeRef.lean ====
/-
  The sample batch's output call's reference: its result at an index is `Cert.Layer.output` of the arguments.
-/
module

public import proofs.«01_k».proof.Proof.Gen.Reference5Ideal.Run
public import proofs.«01_k».proof.Proof.SampleSpec
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Reference5Ideal.Hand
open Cert.Reference5Ideal Cert.Layer

variable (m : (ℓ : Loc nD τ sig) → Buf (Elt Ideal) ℓ)

theorem ref_eq (c : Dev nD) (r : Fin 8192) (j : Fin 1024) : (Value.res_main_v72 (F := Ideal) m c (ix2 r j) : EReal) =
    sampleCall (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) r j := by
  unfold Value.res_main_v72
  clean_types
  pointwise
  rfl

end Cert.Reference5Ideal.Hand
-- ==== Proof.SampleMerge.lean ====
/-
  The sample batch's output call's claims.
-/
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import proofs.«01_k».proof.Proof.SampleMergeKernel
public import proofs.«01_k».proof.Proof.SampleMergeRef
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem

namespace Cert.Proof

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- Both programs leave the output of the same arguments. -/
theorem algebraic5 : Cert.algebraic_Kernel5Ideal_Reference5Ideal := by
  intro m g m' g' _ hargs
  refine ⟨fun c => fun i : Cert.Kernel5Ideal.S8192x1024.Idx => Cert.Layer.sampleCall (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (i 0) (i 1), ?_, ?_⟩
  · refine (θ_run _ _ _).mono (fun r h c => ?_) (Cert.Kernel5Ideal.Value.run_blocks m g)
    exact ⟨(h c).1.trans (Cert.Kernel5Ideal.Hand.final m c), (h c).2⟩
  · refine (θ_run _ _ _).mono (fun r h c => ⟨(h c).1.trans ?_, (h c).2⟩) (Cert.Reference5Ideal.Value.run (F := Ideal) m' g')
    obtain ⟨e0, e1, e2, e3, e4, e5, e6, e7, e8, e9, e10⟩ := hargs c
    funext i
    idx_vars i
    refine (Cert.Reference5Ideal.Hand.ref_eq m' c i0 i1).trans ?_
    rw [e0, e1, e2, e3, e4, e5, e6, e7, e8, e9, e10]

end Cert.Proof

end
-- ==== Proof.AttSpec.lean ====
/-
  The prompt's attention as mathematics: a query's scores against 256 keys, the softmax with a sink, the values' mean, and the
  kernel's spelling of each: keys and values masked to one head's lanes, and the division after the mean.
-/
module

public import proofs.«01_k».proof.Proof.Scalars
public import Idealize.ShloMosaic.Lib.Pointwise

@[expose] public section

noncomputable section

namespace Cert.Layer

open Idealize.ShloMosaic

/-- The word of an eighth, the root of the head width. -/
abbrev eighth : EReal := Ideal.ofBits .f32 0x3E000000#32

theorem eighth_word : eighth = (((1 : ℝ) / 8 : ℝ) : EReal) := by
  simp [eighth, Ideal.ofBits, Ideal.ieee, -EReal.coe_mul]; norm_num

theorem neg_inf_word : Ideal.ofBits .f32 0xFF800000#32 = ⊥ := by
  simp [Ideal.ofBits, Ideal.ieee]

/-- Neither infinity. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : ℕ} {f : Fin n → EReal} (h : ∀ i, IsReal (f i)) : IsReal (∑ i, f i) := by
  refine Finset.sum_induction f IsReal ?_ ⟨0, by simp⟩ fun i _ => h i
  rintro _ _ ⟨a, rfl⟩ ⟨b, rfl⟩
  exact ⟨a + b, (EReal.coe_add a b).symm⟩

/-- A finite sum times a nonnegative real. -/
theorem sum_mul_real {n : ℕ} (f : Fin n → EReal) (r : ℝ) (hr : 0 ≤ r) : (∑ i, f i) * (r : EReal) = ∑ i, f i * (r : EReal) := by
  induction n with
  | zero => simp
  | succ n ih =>
    rw [Fin.sum_univ_succ, Fin.sum_univ_succ, ← ih,
      EReal.right_distrib_of_nonneg_of_ne_top (by exact_mod_cast hr) (EReal.coe_ne_top r)]

/-- A query against a key, over the root of the head width. -/
def attScore (q k : Fin 64 → EReal) : EReal := (∑ d, k d * q d) * eighth

/-- Lane `d` of head `h`. -/
abbrev lane (h : Fin 4) (d : Fin 64) : Fin 256 := ⟨64 * h.val + d.val, by omega⟩

/-- A sum over 256 lanes of which one head's are kept. -/
theorem sum_masked (h : Fin 4) (f : Fin 256 → EReal) (hf : ∀ l : Fin 256, l.val / 64 ≠ h.val → f l = 0) :
    ∑ l, f l = ∑ d, f (lane h d) := by
  rw [← Equiv.sum_comp (finProdFinEquiv (m := 4) (n := 64)), Fintype.sum_prod_type, Finset.sum_eq_single h]
  · refine Finset.sum_congr rfl fun d _ => congrArg f (Fin.ext ?_)
    show d.val + 64 * h.val = 64 * h.val + d.val
    omega
  · intro b _ hb
    refine Finset.sum_eq_zero fun d _ => hf _ ?_
    show (d.val + 64 * b.val) / 64 ≠ h.val
    intro e
    exact hb (Fin.ext (by omega))
  · intro hh
    exact absurd (Finset.mem_univ h) hh

/-- The scaled query against the keys masked to one head. -/
theorem masked_score (h : Fin 4) (q k : Fin 256 → EReal) :
    ∑ l, q l * eighth * (if l.val / 64 = h.val then k l else 0) = attScore (fun d => q (lane h d)) fun d => k (lane h d) := by
  rw [sum_masked h _ fun l hl => by rw [if_neg hl, mul_zero], attScore, eighth_word, sum_mul_real _ _ (by norm_num)]
  refine Finset.sum_congr rfl fun d _ => ?_
  rw [if_pos (by show (64 * h.val + d.val) / 64 = h.val; omega), mul_right_comm, mul_comm (k _)]

theorem attScore_real {q k : Fin 64 → EReal} (hq : ∀ d, IsReal (q d)) (hk : ∀ d, IsReal (k d)) : IsReal (attScore q k) :=
  (IsReal.sum fun d => (hk d).mul (hq d)).mul ⟨_, eighth_word⟩

/-- The greatest of the scores and the sink. -/
def peak (s : Fin 256 → EReal) (sk : EReal) : EReal := max (Finset.univ.fold max ⊥ s) sk

/-- A score's weight before the division, and what they are divided by. -/
def weight (s : Fin 256 → EReal) (sk : EReal) (k : Fin 256) : EReal := Ideal.exp (s k - peak s sk)
def total (s : Fin 256 → EReal) (sk : EReal) : EReal := (∑ k, weight s sk k) + Ideal.exp (sk - peak s sk)

/-- The values' mean under the softmax. -/
def attend (s : Fin 256 → EReal) (sk : EReal) (v : Fin 256 → EReal) : EReal := ∑ k, v k * Ideal.div (weight s sk k) (total s sk)

/-- The same, divided afterwards. -/
def attendLate (s : Fin 256 → EReal) (sk : EReal) (v : Fin 256 → EReal) : EReal :=
  (∑ k, weight s sk k * v k) * Ideal.div 1 (total s sk)

theorem attendLate_zero (s : Fin 256 → EReal) (sk : EReal) {v : Fin 256 → EReal} (hv : ∀ k, v k = 0) : attendLate s sk v = 0 := by
  simp [attendLate, hv]

theorem peak_real {s : Fin 256 → EReal} {sk : EReal} (hs : ∀ k, IsReal (s k)) (hk : IsReal sk) : IsReal (peak s sk) := by
  have h : ∀ t : Finset (Fin 256), Finset.fold max ⊥ s t = ⊥ ∨ IsReal (Finset.fold max ⊥ s t) := by
    intro t
    induction t using Finset.induction_on with
    | empty => left; simp
    | insert a t ha ih =>
      rw [Finset.fold_insert ha]
      right
      rcases ih with e | e
      · rw [e, max_eq_left bot_le]; exact hs a
      · rcases max_choice (s a) (Finset.fold max ⊥ s t) with c | c <;> rw [c]
        · exact hs a
        · exact e
  unfold peak
  rcases h Finset.univ with e | e
  · rw [e, max_eq_right bot_le]; exact hk
  · rcases max_choice (Finset.fold max ⊥ s Finset.univ) sk with c | c <;> rw [c]
    · exact e
    · exact hk

/-- Where scores and sink are finite the division may come last. -/
theorem attendLate_eq {s : Fin 256 → EReal} {sk : EReal} (hs : ∀ k, IsReal (s k)) (hk : IsReal sk) (v : Fin 256 → EReal) :
    attendLate s sk v = attend s sk v := by
  obtain ⟨M, hM⟩ := peak_real hs hk
  choose a ha using hs
  obtain ⟨b, rfl⟩ := hk
  have hw : ∀ k, weight s b k = ((Real.exp (a k - M) : ℝ) : EReal) := fun k => by
    rw [weight, hM, ha, ← EReal.coe_sub, Ideal.exp_coe]
  have hsum : ∀ n (f : Fin n → ℝ), (∑ k, (f k : EReal)) = ((∑ k, f k : ℝ) : EReal) := fun n f => by
    induction n with
    | zero => simp
    | succ n ih => rw [Fin.sum_univ_succ, Fin.sum_univ_succ, ih, EReal.coe_add]
  have ht : total s b = (((∑ k, Real.exp (a k - M)) + Real.exp (b - M) : ℝ) : EReal) := by
    rw [total, hM, ← EReal.coe_sub, Ideal.exp_coe]
    simp only [hw]
    rw [hsum, ← EReal.coe_add]
  have hpos : 0 < (∑ k, Real.exp (a k - M)) + Real.exp (b - M) :=
    add_pos_of_nonneg_of_pos (Finset.sum_nonneg fun k _ => (Real.exp_pos _).le) (Real.exp_pos _)
  generalize (∑ k, Real.exp (a k - M)) + Real.exp (b - M) = T at ht hpos
  unfold attendLate attend
  rw [ht, Ideal.div_coe hpos.ne', one_mul, sum_mul_real _ _ (by positivity)]
  refine Finset.sum_congr rfl fun k _ => ?_
  rw [Ideal.div_coe hpos.ne', mul_comm (weight s b k), mul_assoc]

/-- A head's value lanes kept, the others none: the four heads' means at a lane of head `h` are that head's. -/
theorem four_heads (h : Fin 4) (s : Fin 4 → Fin 256 → EReal) (sk : Fin 4 → EReal) (v : Fin 256 → EReal)
    (hs : ∀ n k, IsReal (s n k)) (hk : ∀ n, IsReal (sk n)) :
    attendLate (s 0) (sk 0) (fun k => if h.val = 0 then v k else 0) + attendLate (s 1) (sk 1) (fun k => if h.val = 1 then v k else 0)
      + attendLate (s 2) (sk 2) (fun k => if h.val = 2 then v k else 0) + attendLate (s 3) (sk 3) (fun k => if h.val = 3 then v k else 0)
      = attend (s h) (sk h) v := by
  fin_cases h <;> simp [attendLate_zero, attendLate_eq (hs _) (hk _)]

/-- The call's arrays: 16 sequences of 256 rows of 7680 lanes, queries and their gates in the first 2048, keys and values in the
    last 512; the 16 sinks; and the result. -/
abbrev Slab : Shape := ⟨3, ![16, 256, 7680]⟩
abbrev Sinks : Shape := ⟨1, ![16]⟩

/-- The scores of the query of row `i`, group `g`, head `h`. -/
def rowScores (pm : Slab.Idx → EReal) (b : Fin 16) (i : Fin 256) (g h : Fin 4) (k : Fin 256) : EReal :=
  attScore (fun d => pm (ix3 b i ⟨256 * g.val + 64 * h.val + d.val, by omega⟩)) fun d => pm (ix3 b k ⟨7168 + 64 * h.val + d.val, by omega⟩)

/-- What the call leaves for row `i`, group `g`, head `h`, lane `d`: the values' mean, gated. -/
def attnAt (pm : Slab.Idx → EReal) (sk : Sinks.Idx → EReal) (b : Fin 16) (i : Fin 256) (g h : Fin 4) (d : Fin 64) : EReal :=
  attend (rowScores pm b i g h) (sk (ix1 ⟨4 * h.val + g.val, by omega⟩)) (fun k => pm (ix3 b k ⟨7424 + 64 * h.val + d.val, by omega⟩))
    * (pm (ix3 b i ⟨1024 + 256 * g.val + 64 * h.val + d.val, by omega⟩) * Ideal.logistic (pm (ix3 b i ⟨1024 + 256 * g.val + 64 * h.val + d.val, by omega⟩)))

/-- The same at a column of the result. -/
def attnOut (pm : Slab.Idx → EReal) (sk : Sinks.Idx → EReal) (b : Fin 16) (i : Fin 256) (j : Fin 1024) : EReal :=
  attnAt pm sk b i ⟨j.val / 256, by omega⟩ ⟨j.val / 64 % 4, by omega⟩ ⟨j.val % 64, by omega⟩

theorem rowScores_real {pm : Slab.Idx → EReal} (h : ∀ i, IsReal (pm i)) (b : Fin 16) (i : Fin 256) (g n : Fin 4) (k : Fin 256) :
    IsReal (rowScores pm b i g n k) := attScore_real (fun _ => h _) fun _ => h _

end Cert.Layer
-- ==== Proof.AttKernel.lean ====
/-
  One sequence's attention as the kernel composes it: four heads' softmax means over masked keys and values, summed and gated.
-/
module

public import proofs.«01_k».proof.Proof.Gen.Kernel4Ideal.Frame
public import proofs.«01_k».proof.Proof.AttSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel4Ideal.Hand
open Cert.Kernel4Ideal Cert.Kernel4Ideal.Gen Cert.Layer

section head
variable (qg : FVec Ideal S1024x256 .bf16) (a b c d : Elt Ideal .f32) (K V : Vec Ideal S1x256x256 .bf16)

/-- A head's softmax means, of the grouped query rows, its four sinks, its keys and values. -/
def headOut : FVec Ideal S1024x256 .f32 := k0_pay35 (k0_pay36 a b c d) (k0_pay38 qg a b c d K) (k0_pay39 qg a b c d K) V

theorem head_at (r : Fin 1024) (l : Fin 256) (sk : EReal) (q' : Fin 256 → EReal) (K' : Fin 256 → Fin 256 → EReal) (V' : Fin 256 → EReal)
    (hs : (k0_pay36 a b c d (ix2 r 0) : EReal) = sk)
    (hq : ∀ x : Fin 256, (qg (ix2 r x) : EReal) = q' x)
    (hK : ∀ k x : Fin 256, (K (ix3 0 k x) : EReal) = K' k x)
    (hV : ∀ k : Fin 256, (V (ix3 0 k l) : EReal) = V' k) :
    (headOut qg a b c d K V (ix2 r l) : EReal) = attendLate (fun k => ∑ x, q' x * K' k x) sk V' := by
  pointwise [headOut, k0_pay35, k0_pay37, k0_pay38, k0_pay39]
  simp only [hs, hq, hK, hV]
  rfl

theorem sink0 (i : Fin 256) : (k0_pay36 a b c d (ix2 ⟨256 * 0 + i.val, by omega⟩ 0) : EReal) = a := by
  pointwise [k0_pay36]
theorem sink1 (i : Fin 256) : (k0_pay36 a b c d (ix2 ⟨256 * 1 + i.val, by omega⟩ 0) : EReal) = b := by
  pointwise [k0_pay36]
theorem sink2 (i : Fin 256) : (k0_pay36 a b c d (ix2 ⟨256 * 2 + i.val, by omega⟩ 0) : EReal) = c := by
  pointwise [k0_pay36]
  rw [dif_neg (by omega), dif_neg (by omega), dif_pos (by omega)]
theorem sink3 (i : Fin 256) : (k0_pay36 a b c d (ix2 ⟨256 * 3 + i.val, by omega⟩ 0) : EReal) = d := by
  pointwise [k0_pay36]
  rw [dif_neg (by omega), dif_neg (by omega), dif_neg (by omega)]

end head

section rows
variable (q : Vec Ideal S1x256x1024 .f32)

theorem query0 (i x : Fin 256) : (k0_pay30 q (ix2 ⟨256 * 0 + i.val, by omega⟩ x) : EReal) = q (ix3 0 i ⟨256 * 0 + x.val, by omega⟩) * eighth := by
  pointwise [k0_pay30]

theorem query1 (i x : Fin 256) : (k0_pay30 q (ix2 ⟨256 * 1 + i.val, by omega⟩ x) : EReal) = q (ix3 0 i ⟨256 * 1 + x.val, by omega⟩) * eighth := by
  pointwise [k0_pay30]

theorem query2 (i x : Fin 256) : (k0_pay30 q (ix2 ⟨256 * 2 + i.val, by omega⟩ x) : EReal) = q (ix3 0 i ⟨256 * 2 + x.val, by omega⟩) * eighth := by
  pointwise [k0_pay30]
  rw [dif_neg (by omega), dif_neg (by omega), dif_pos (by omega)]
  simp only [show 512 + i.val - 256 - 256 = i.val by omega, Fin.eta]

theorem query3 (i x : Fin 256) : (k0_pay30 q (ix2 ⟨256 * 3 + i.val, by omega⟩ x) : EReal) = q (ix3 0 i ⟨256 * 3 + x.val, by omega⟩) * eighth := by
  pointwise [k0_pay30]
  rw [dif_neg (by omega), dif_neg (by omega), dif_neg (by omega)]
  simp only [show 768 + i.val - 256 - 256 - 256 = i.val by omega, Fin.eta]

end rows

/-- The four groups side by side, times the gate's silu. -/
def gated (acc : FVec Ideal S1024x256 .f32) (ag : Vec Ideal S1x256x1024 .f32) : FVec Ideal S1x256x1024 .f32 :=
  shapeCast S1x256x1024
    (mulf (concatenate S256x1024 1
        [⟨S256x256, extractStridedSlice S256x256 ![0, 0] acc slices_S1024x256_o0_0_S256x256⟩,
          ⟨S256x256, extractStridedSlice S256x256 ![256, 0] acc slices_S1024x256_o256_0_S256x256⟩,
          ⟨S256x256, extractStridedSlice S256x256 ![512, 0] acc slices_S1024x256_o512_0_S256x256⟩,
          ⟨S256x256, extractStridedSlice S256x256 ![768, 0] acc slices_S1024x256_o768_0_S256x256⟩]
        concatenates_S256x256_S256x256_S256x256_S256x256_S256x1024_d1)
      (mulf (shapeCast S256x1024 ag shapeCasts_S1x256x1024_S256x1024)
        (addf (mulf (broadcast S256x1024 (Scalar.ofBits .f32 0x3F000000#32))
            (tanh (mulf (broadcast S256x1024 (Scalar.ofBits .f32 0x3F000000#32)) (shapeCast S256x1024 ag shapeCasts_S1x256x1024_S256x1024))))
          (broadcast S256x1024 (Scalar.ofBits .f32 0x3F000000#32)))))
    shapeCasts_S256x1024_S1x256x1024

section gate
variable (acc : FVec Ideal S1024x256 .f32) (ag : Vec Ideal S1x256x1024 .f32)

theorem gated0 (i l : Fin 256) : (gated acc ag (ix3 0 i ⟨256 * 0 + l.val, by omega⟩) : EReal) =
    acc (ix2 ⟨256 * 0 + i.val, by omega⟩ l) * (ag (ix3 0 i ⟨256 * 0 + l.val, by omega⟩) * Ideal.logistic (ag (ix3 0 i ⟨256 * 0 + l.val, by omega⟩))) := by
  pointwise [gated]
  simp only [sigmoid_eq]

theorem gated1 (i l : Fin 256) : (gated acc ag (ix3 0 i ⟨256 * 1 + l.val, by omega⟩) : EReal) =
    acc (ix2 ⟨256 * 1 + i.val, by omega⟩ l) * (ag (ix3 0 i ⟨256 * 1 + l.val, by omega⟩) * Ideal.logistic (ag (ix3 0 i ⟨256 * 1 + l.val, by omega⟩))) := by
  pointwise [gated]
  simp only [sigmoid_eq]

theorem gated2 (i l : Fin 256) : (gated acc ag (ix3 0 i ⟨256 * 2 + l.val, by omega⟩) : EReal) =
    acc (ix2 ⟨256 * 2 + i.val, by omega⟩ l) * (ag (ix3 0 i ⟨256 * 2 + l.val, by omega⟩) * Ideal.logistic (ag (ix3 0 i ⟨256 * 2 + l.val, by omega⟩))) := by
  pointwise [gated]
  simp only [sigmoid_eq]
  rw [dif_neg (by omega), dif_neg (by omega), dif_pos (by omega)]
  simp only [show 512 + l.val - 256 - 256 = l.val by omega, Fin.eta]

theorem gated3 (i l : Fin 256) : (gated acc ag (ix3 0 i ⟨256 * 3 + l.val, by omega⟩) : EReal) =
    acc (ix2 ⟨256 * 3 + i.val, by omega⟩ l) * (ag (ix3 0 i ⟨256 * 3 + l.val, by omega⟩) * Ideal.logistic (ag (ix3 0 i ⟨256 * 3 + l.val, by omega⟩))) := by
  pointwise [gated]
  simp only [sigmoid_eq]
  rw [dif_neg (by omega), dif_neg (by omega), dif_neg (by omega)]
  simp only [show 768 + l.val - 256 - 256 - 256 = l.val by omega, Fin.eta]

end gate

end Cert.Kernel4Ideal.Hand
-- ==== Proof.AttPiece.lean ====
/-
  The attention call's piece of one sequence: its four heads' means added and gated, at an index, from what its loads hold.
-/
module

public import proofs.«01_k».proof.Proof.AttKernel

@[expose] public section

set_option maxRecDepth 16384

noncomputable section

open Idealize.ShloMosaic Idealize.ShloMosaic.TcCoe Idealize.SL.Sem
namespace Cert.Kernel4Ideal.Hand
open Cert.Kernel4Ideal Cert.Kernel4Ideal.Gen Cert.Layer

section piece
variable (q ag : Vec Ideal S1x256x1024 .f32) (a0 a1 a2 a3 a4 a5 a6 a7 a8 a9 a10 a11 a12 a13 a14 a15 : Elt Ideal .f32) (K0 K1 K2 K3 V0 V1 V2 V3 : Vec Ideal S1x256x256 .bf16)

/-- The four heads' means, added. -/
def heads : FVec Ideal S1024x256 .f32 :=
  addf (addf (addf (headOut (k0_pay30 q) a0 a1 a2 a3 K0 V0) (headOut (k0_pay30 q) a4 a5 a6 a7 K1 V1)) (headOut (k0_pay30 q) a8 a9 a10 a11 K2 V2))
    (headOut (k0_pay30 q) a12 a13 a14 a15 K3 V3)

theorem first_piece :
    k0_pay55 (k0_pay48 (k0_pay41 (k0_pay35 (k0_pay31 a0 a1 a2 a3) (k0_pay33 q a0 a1 a2 a3 K0) (k0_pay34 q a0 a1 a2 a3 K0) V0)
          (k0_pay36 a4 a5 a6 a7) (k0_pay38 (k0_pay30 q) a4 a5 a6 a7 K1) (k0_pay39 (k0_pay30 q) a4 a5 a6 a7 K1) (k0_pay40 (k0_pay30 q) a4 a5 a6 a7 K1) V1)
        (k0_pay45 (k0_pay30 q) a8 a9 a10 a11 K2) (k0_pay46 (k0_pay30 q) a8 a9 a10 a11 K2) (k0_pay47 (k0_pay30 q) a8 a9 a10 a11 K2) V2)
      (k0_pay52 (k0_pay30 q) a12 a13 a14 a15 K3) (k0_pay53 (k0_pay30 q) a12 a13 a14 a15 K3) (k0_pay54 (k0_pay30 q) a12 a13 a14 a15 K3) V3 ag
      = gated (heads q a0 a1 a2 a3 a4 a5 a6 a7 a8 a9 a10 a11 a12 a13 a14 a15 K0 K1 K2 K3 V0 V1 V2 V3) ag := rfl

theorem second_piece :
    k0_pay1 (k0_pay77 (k0_pay70 (k0_pay63 (k0_pay61 q a0 a1 a2 a3 K0) (k0_pay62 q a0 a1 a2 a3 K0) V0)
          (k0_pay68 (k0_pay56 q) a4 a5 a6 a7 K1) (k0_pay69 (k0_pay56 q) a4 a5 a6 a7 K1) V1)
        (k0_pay75 (k0_pay56 q) a8 a9 a10 a11 K2) (k0_pay76 (k0_pay56 q) a8 a9 a10 a11 K2) V2)
      (k0_pay82 (k0_pay56 q) a12 a13 a14 a15 K3) (k0_pay83 (k0_pay56 q) a12 a13 a14 a15 K3) V3 ag
      = gated (heads q a0 a1 a2 a3 a4 a5 a6 a7 a8 a9 a10 a11 a12 a13 a14 a15 K0 K1 K2 K3 V0 V1 V2 V3) ag := rfl

variable (pm : Slab.Idx → EReal) (sk : Sinks.Idx → EReal) (b : Fin 16)

/-- One head's row of one group. -/
theorem head_row (n g : Fin 4) (i l : Fin 256) (a b' c d : Elt Ideal .f32) (K V : Vec Ideal S1x256x256 .bf16)
    (hs : (k0_pay36 a b' c d (ix2 ⟨256 * g.val + i.val, by omega⟩ 0) : EReal) = sk (ix1 ⟨4 * n.val + g.val, by omega⟩))
    (hq : ∀ x : Fin 256, (k0_pay30 q (ix2 ⟨256 * g.val + i.val, by omega⟩ x) : EReal) = pm (ix3 b i ⟨256 * g.val + x.val, by omega⟩) * eighth)
    (hK : ∀ k x : Fin 256, (K (ix3 0 k x) : EReal) = if x.val / 64 = n.val then pm (ix3 b k ⟨7168 + x.val, by omega⟩) else 0)
    (hV : ∀ k x : Fin 256, (V (ix3 0 k x) : EReal) = if x.val / 64 = n.val then pm (ix3 b k ⟨7424 + x.val, by omega⟩) else 0) :
    (headOut (k0_pay30 q) a b' c d K V (ix2 ⟨256 * g.val + i.val, by omega⟩ l) : EReal) =
      attendLate (rowScores pm b i g n) (sk (ix1 ⟨4 * n.val + g.val, by omega⟩)) fun k => if l.val / 64 = n.val then pm (ix3 b k ⟨7424 + l.val, by omega⟩) else 0 := by
  refine (head_at _ _ _ _ _ _ _ _ l _ _ _ _ hs hq hK fun k => hV k l).trans ?_
  refine congrArg (fun f => attendLate f _ _) (funext fun k => ?_)
  refine (masked_score n (fun x => pm (ix3 b i ⟨256 * g.val + x.val, by omega⟩)) fun x => pm (ix3 b k ⟨7168 + x.val, by omega⟩)).trans ?_
  unfold rowScores lane
  simp only [Nat.add_assoc]

/-- One sequence's piece at a row of one group. -/
theorem piece_row (hp : ∀ i, IsReal (pm i)) (hk : ∀ i, IsReal (sk i)) (g : Fin 4) (i l : Fin 256)
    (hg : (gated (heads q a0 a1 a2 a3 a4 a5 a6 a7 a8 a9 a10 a11 a12 a13 a14 a15 K0 K1 K2 K3 V0 V1 V2 V3) ag (ix3 0 i ⟨256 * g.val + l.val, by omega⟩) : EReal) =
      heads q a0 a1 a2 a3 a4 a5 a6 a7 a8 a9 a10 a11 a12 a13 a14 a15 K0 K1 K2 K3 V0 V1 V2 V3 (ix2 ⟨256 * g.val + i.val, by omega⟩ l)
        * (ag (ix3 0 i ⟨256 * g.val + l.val, by omega⟩) * Ideal.logistic (ag (ix3 0 i ⟨256 * g.val + l.val, by omega⟩))))
    (hs0 : (k0_pay36 a0 a1 a2 a3 (ix2 ⟨256 * g.val + i.val, by omega⟩ 0) : EReal) = sk (ix1 ⟨4 * (0 : Fin 4).val + g.val, by have : (0 : Fin 4).val = 0 := rfl; omega⟩))
    (hs1 : (k0_pay36 a4 a5 a6 a7 (ix2 ⟨256 * g.val + i.val, by omega⟩ 0) : EReal) = sk (ix1 ⟨4 * (1 : Fin 4).val + g.val, by have : (1 : Fin 4).val = 1 := rfl; omega⟩))
    (hs2 : (k0_pay36 a8 a9 a10 a11 (ix2 ⟨256 * g.val + i.val, by omega⟩ 0) : EReal) = sk (ix1 ⟨4 * (2 : Fin 4).val + g.val, by have : (2 : Fin 4).val = 2 := rfl; omega⟩))
    (hs3 : (k0_pay36 a12 a13 a14 a15 (ix2 ⟨256 * g.val + i.val, by omega⟩ 0) : EReal) = sk (ix1 ⟨4 * (3 : Fin 4).val + g.val, by have : (3 : Fin 4).val = 3 := rfl; omega⟩))
    (hq : ∀ x : Fin 256, (k0_pay30 q (ix2 ⟨256 * g.val + i.val, by omega⟩ x) : EReal) = pm (ix3 b i ⟨256 * g.val + x.val, by omega⟩) * eighth)
    (ha : ∀ j : Fin 1024, (ag (ix3 0 i j) : EReal) = pm (ix3 b i ⟨1024 + j.val, by omega⟩))
    (hK0 : ∀ k x : Fin 256, (K0 (ix3 0 k x) : EReal) = if x.val / 64 = 0 then pm (ix3 b k ⟨7168 + x.val, by omega⟩) else 0)
    (hK1 : ∀ k x : Fin 256, (K1 (ix3 0 k x) : EReal) = if x.val / 64 = 1 then pm (ix3 b k ⟨7168 + x.val, by omega⟩) else 0)
    (hK2 : ∀ k x : Fin 256, (K2 (ix3 0 k x) : EReal) = if x.val / 64 = 2 then pm (ix3 b k ⟨7168 + x.val, by omega⟩) else 0)
    (hK3 : ∀ k x : Fin 256, (K3 (ix3 0 k x) : EReal) = if x.val / 64 = 3 then pm (ix3 b k ⟨7168 + x.val, by omega⟩) else 0)
    (hV0 : ∀ k x : Fin 256, (V0 (ix3 0 k x) : EReal) = if x.val / 64 = 0 then pm (ix3 b k ⟨7424 + x.val, by omega⟩) else 0)
    (hV1 : ∀ k x : Fin 256, (V1 (ix3 0 k x) : EReal) = if x.val / 64 = 1 then pm (ix3 b k ⟨7424 + x.val, by omega⟩) else 0)
    (hV2 : ∀ k x : Fin 256, (V2 (ix3 0 k x) : EReal) = if x.val / 64 = 2 then pm (ix3 b k ⟨7424 + x.val, by omega⟩) else 0)
    (hV3 : ∀ k x : Fin 256, (V3 (ix3 0 k x) : EReal) = if x.val / 64 = 3 then pm (ix3 b k ⟨7424 + x.val, by omega⟩) else 0) :
    (gated (heads q a0 a1 a2 a3 a4 a5 a6 a7 a8 a9 a10 a11 a12 a13 a14 a15 K0 K1 K2 K3 V0 V1 V2 V3) ag (ix3 0 i ⟨256 * g.val + l.val, by omega⟩) : EReal) =
      attnAt pm sk b i g ⟨l.val / 64, by omega⟩ ⟨l.val % 64, by omega⟩ := by
  rw [hg, ha]
  unfold attnAt
  have e1 : (⟨1024 + 256 * g.val + 64 * (l.val / 64) + l.val % 64, by omega⟩ : Fin 7680) = ⟨1024 + (256 * g.val + l.val), by omega⟩ :=
    Fin.ext (by show 1024 + 256 * g.val + 64 * (l.val / 64) + l.val % 64 = 1024 + (256 * g.val + l.val); omega)
  have e2 : (⟨7424 + 64 * (l.val / 64) + l.val % 64, by omega⟩ : Fin 7680) = ⟨7424 + l.val, by omega⟩ :=
    Fin.ext (by show 7424 + 64 * (l.val / 64) + l.val % 64 = 7424 + l.val; omega)
  simp only [e1, e2]
  refine congrArg (· * _) ?_
  refine Eq.trans ?_ (four_heads ⟨l.val / 64, by omega⟩ (fun n => rowScores pm b i g n) (fun n => sk (ix1 ⟨4 * n.val + g.val, by omega⟩))
    (fun k => pm (ix3 b k ⟨7424 + l.val, by omega⟩)) (fun n => rowScores_real hp b i g n) fun n => hk _)
  exact congrArg₂ (· + ·) (congrArg₂ (· + ·) (congrArg₂ (· + ·)
    (head_row q pm sk b 0 g i l _ _ _ _ K0 V0 hs0 hq hK0 hV0) (head_row q pm sk b 1 g i l _ _ _ _ K1 V1 hs1 hq hK1 hV1))
    (head_row q pm sk b 2 g i l _ _ _ _ K2 V2 hs2 hq hK2 hV2)) (head_row q pm sk b 3 g i l _ _ _ _ K3 V3 hs3 hq hK3 hV3)

/-- One sequence's piece at an index. -/
theorem piece_at (hp : ∀ i, IsReal (pm i)) (hk : ∀ i, IsReal (sk i)) (i : Fin 256) (j : Fin 1024)
    (h0 : (a0 : EReal) = sk (ix1 0))
    (h1 : (a1 : EReal) = sk (ix1 1))
    (h2 : (a2 : EReal) = sk (ix1 2))
    (h3 : (a3 : EReal) = sk (ix1 3))
    (h4 : (a4 : EReal) = sk (ix1 4))
    (h5 : (a5 : EReal) = sk (ix1 5))
    (h6 : (a6 : EReal) = sk (ix1 6))
    (h7 : (a7 : EReal) = sk (ix1 7))
    (h8 : (a8 : EReal) = sk (ix1 8))
    (h9 : (a9 : EReal) = sk (ix1 9))
    (h10 : (a10 : EReal) = sk (ix1 10))
    (h11 : (a11 : EReal) = sk (ix1 11))
    (h12 : (a12 : EReal) = sk (ix1 12))
    (h13 : (a13 : EReal) = sk (ix1 13))
    (h14 : (a14 : EReal) = sk (ix1 14))
    (h15 : (a15 : EReal) = sk (ix1 15))
    (hq : ∀ (r : Fin 256) (x : Fin 1024), (q (ix3 0 r x) : EReal) = pm (ix3 b r ⟨x.val, by omega⟩))
    (ha : ∀ (r : Fin 256) (x : Fin 1024), (ag (ix3 0 r x) : EReal) = pm (ix3 b r ⟨1024 + x.val, by omega⟩))
    (hK0 : ∀ k x : Fin 256, (K0 (ix3 0 k x) : EReal) = if x.val / 64 = 0 then pm (ix3 b k ⟨7168 + x.val, by omega⟩) else 0)
    (hK1 : ∀ k x : Fin 256, (K1 (ix3 0 k x) : EReal) = if x.val / 64 = 1 then pm (ix3 b k ⟨7168 + x.val, by omega⟩) else 0)
    (hK2 : ∀ k x : Fin 256, (K2 (ix3 0 k x) : EReal) = if x.val / 64 = 2 then pm (ix3 b k ⟨7168 + x.val, by omega⟩) else 0)
    (hK3 : ∀ k x : Fin 256, (K3 (ix3 0 k x) : EReal) = if x.val / 64 = 3 then pm (ix3 b k ⟨7168 + x.val, by omega⟩) else 0)
    (hV0 : ∀ k x : Fin 256, (V0 (ix3 0 k x) : EReal) = if x.val / 64 = 0 then pm (ix3 b k ⟨7424 + x.val, by omega⟩) else 0)
    (hV1 : ∀ k x : Fin 256, (V1 (ix3 0 k x) : EReal) = if x.val / 64 = 1 then pm (ix3 b k ⟨7424 + x.val, by omega⟩) else 0)
    (hV2 : ∀ k x : Fin 256, (V2 (ix3 0 k x) : EReal) = if x.val / 64 = 2 then pm (ix3 b k ⟨7424 + x.val, by omega⟩) else 0)
    (hV3 : ∀ k x : Fin 256, (V3 (ix3 0 k x) : EReal) = if x.val / 64 = 3 then pm (ix3 b k ⟨7424 + x.val, by omega⟩) else 0) :
    (gated (heads q a0 a1 a2 a3 a4 a5 a6 a7 a8 a9 a10 a11 a12 a13 a14 a15 K0 K1 K2 K3 V0 V1 V2 V3) ag (ix3 0 i j) : EReal) = attnOut pm sk b i j := by
  obtain ⟨g, l, rfl⟩ : ∃ (g : Fin 4) (l : Fin 256), j = ⟨256 * g.val + l.val, by omega⟩ :=
    ⟨⟨j.val / 256, by omega⟩, ⟨j.val % 256, by omega⟩, Fin.ext (by show j.val = 256 * (j.val / 256) + j.val % 256; omega)⟩
  have e : attnOut pm sk b i ⟨256 * g.val + l.val, by omega⟩ = attnAt pm sk b i g ⟨l.val / 64, by omega⟩ ⟨l.val % 64, by omega⟩ := by
    unfold attnOut
    congr 1
    · exact Fin.ext (by show (256 * g.val + l.val) / 256 = g.val; omega)
    · exact Fin.ext (by show (256 * g.val + l.val) / 64 % 4 = l.val / 64; omega)
    · exact Fin.ext (by show (256 * g.val + l.val) % 64 = l.val % 64; omega)
  rw [e]
  obtain ⟨g, hg⟩ := g
  interval_cases g
  · exact piece_row q ag a0 a1 a2 a3 a4 a5 a6 a7 a8 a9 a10 a11 a12 a13 a14 a15 K0 K1 K2 K3 V0 V1 V2 V3 pm sk b hp hk 0 i l (gated0 ..)
      ((sink0 ..).trans h0) ((sink0 ..).trans h4) ((sink0 ..).trans h8) ((sink0 ..).trans h12)
      (fun x => (query0 q i x).trans (congrArg (· * eighth) (hq i _))) (ha i) hK0 hK1 hK2 hK3 hV0 hV1 hV2 hV3
  · exact piece_row q ag a0 a1 a2 a3 a4 a5 a6 a7 a8 a9 a10 a11 a12 a13 a14 a15 K0 K1 K2 K3 V0 V1 V2 V3 pm sk b hp hk 1 i l (gated1 ..)
      ((sink1 ..).trans h1) ((sink1 ..).trans h5) ((sink1 ..).trans h9) ((sink1 ..).trans h13)
      (fun x => (query1 q i x).trans (congrArg (· * eighth) (hq i _))) (ha i) hK0 hK1 hK2 hK3 hV0 hV1 hV2 hV3
  · exact piece_row q ag a0 a1 a2 a3 a4 a5 a6 a7 a8 a9 a10 a11 a12 a13 a14 a15 K0 K1 K2 K3 V0 V1 V2 V3 pm sk b hp hk 2 i l (gated2 ..)
      ((sink2 ..).trans h2) ((sink2 ..).trans h6) ((sink2 ..).trans h10) ((sink2 ..).trans h14)
      (fun x => (query2 q i x).trans (congrArg (· * eighth) (hq i _))) (ha i) hK0 hK1 hK2 hK3 hV0 hV1 hV2 hV3
  · exact piece_row q ag a0 a1 a2 a3 a4 a5 a6 a7 a8 a9 a10 a11 a12 a13 a14 a15 K0 K1 K2 K3 V0 V1 V2 V3 pm sk b hp hk 3 i l (gated3 ..)
      ((sink3 ..).trans h3) ((sink3 ..).trans h7) ((sink3 ..).trans h11) ((sink3 ..).trans h15)
      (fun x => (query3 q i x).trans (congrArg (· * eighth) (hq i _))) (ha i) hK0 hK1 hK2 hK3 hV0 hV1 hV2 hV3

end piece

end Cert.Kernel4Ideal.Hand
-- ==== Proof.AttMasks.lean ====
/-
  The kernel's masks: each store into the scratches keeps one head's lanes of the keys or of the values.
-/
module

public import proofs.«01_k».proof.Proof.Gen.Kernel4Ideal.Frame
public import proofs.«01_k».proof.Proof.AttSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel4Ideal.Hand
open Cert.Kernel4Ideal Cert.Kernel4Ideal.Gen Cert.Layer

theorem lane_mask (h : Fin 4) (x : Fin 256) :
    IntOp.cmpi .eq (IntOp.shrui .vector (BitVec.ofNat 32 x.val) 6#32) (BitVec.ofNat 32 h.val) = if x.val / 64 = h.val then 1#1 else 0#1 := by
  revert h x
  decide +kernel

theorem pick (h : Fin 4) (x : Fin 256) (a : EReal) :
    Scalar.select (IntOp.cmpi .eq (IntOp.shrui .vector (BitVec.ofNat 32 x.val) 6#32) (BitVec.ofNat 32 h.val)) a 0 = if x.val / 64 = h.val then a else 0 := by
  rw [lane_mask]
  split <;> rfl

variable (v : Vec Ideal S1x256x256 .f32) (k x : Fin 256)

theorem keyA0 : @Eq EReal ((k0_pay4 v) (ix4 0 0 k x)) (if x.val / 64 = 0 then v (ix3 0 k x) else 0) := by
  pointwise [k0_pay4, k0_pay2, k0_pay3]
  exact pick 0 x _

theorem keyA1 : @Eq EReal ((k0_pay5 v) (ix4 0 0 k x)) (if x.val / 64 = 1 then v (ix3 0 k x) else 0) := by
  pointwise [k0_pay5, k0_pay2, k0_pay3]
  exact pick 1 x _

theorem keyA2 : @Eq EReal ((k0_pay7 (k0_pay6 v)) (ix4 0 0 k x)) (if x.val / 64 = 2 then v (ix3 0 k x) else 0) := by
  pointwise [k0_pay7, k0_pay6, k0_pay2, k0_pay3]
  exact pick 2 x _

theorem keyA3 : @Eq EReal ((k0_pay8 (k0_pay2 v) k0_pay3) (ix4 0 0 k x)) (if x.val / 64 = 3 then v (ix3 0 k x) else 0) := by
  pointwise [k0_pay8, k0_pay2, k0_pay3]
  exact pick 3 x _

theorem valA0 : @Eq EReal ((k0_pay11 v) (ix4 0 0 k x)) (if x.val / 64 = 0 then v (ix3 0 k x) else 0) := by
  pointwise [k0_pay11, k0_pay9, k0_pay10]
  exact pick 0 x _

theorem valA1 : @Eq EReal ((k0_pay13 (k0_pay9 v) k0_pay10 k0_pay12) (ix4 0 0 k x)) (if x.val / 64 = 1 then v (ix3 0 k x) else 0) := by
  pointwise [k0_pay13, k0_pay9, k0_pay10, k0_pay12]
  exact pick 1 x _

theorem valA2 : @Eq EReal ((k0_pay14 (k0_pay9 v) k0_pay10) (ix4 0 0 k x)) (if x.val / 64 = 2 then v (ix3 0 k x) else 0) := by
  pointwise [k0_pay14, k0_pay9, k0_pay10]
  exact pick 2 x _

theorem valA3 : @Eq EReal ((k0_pay15 (k0_pay9 v) k0_pay10) (ix4 0 0 k x)) (if x.val / 64 = 3 then v (ix3 0 k x) else 0) := by
  pointwise [k0_pay15, k0_pay9, k0_pay10]
  exact pick 3 x _

theorem keyB0 : @Eq EReal ((k0_pay18 v) (ix4 0 0 k x)) (if x.val / 64 = 0 then v (ix3 0 k x) else 0) := by
  pointwise [k0_pay18, k0_pay16, k0_pay17]
  exact pick 0 x _

theorem keyB1 : @Eq EReal ((k0_pay19 v) (ix4 0 0 k x)) (if x.val / 64 = 1 then v (ix3 0 k x) else 0) := by
  pointwise [k0_pay19, k0_pay16, k0_pay17]
  exact pick 1 x _

theorem keyB2 : @Eq EReal ((k0_pay21 (k0_pay20 v)) (ix4 0 0 k x)) (if x.val / 64 = 2 then v (ix3 0 k x) else 0) := by
  pointwise [k0_pay21, k0_pay20, k0_pay16, k0_pay17]
  exact pick 2 x _

theorem keyB3 : @Eq EReal ((k0_pay22 (k0_pay16 v) k0_pay17) (ix4 0 0 k x)) (if x.val / 64 = 3 then v (ix3 0 k x) else 0) := by
  pointwise [k0_pay22, k0_pay16, k0_pay17]
  exact pick 3 x _

theorem valB0 : @Eq EReal ((k0_pay25 v) (ix4 0 0 k x)) (if x.val / 64 = 0 then v (ix3 0 k x) else 0) := by
  pointwise [k0_pay25, k0_pay23, k0_pay24]
  exact pick 0 x _

theorem valB1 : @Eq EReal ((k0_pay27 (k0_pay23 v) k0_pay24 k0_pay26) (ix4 0 0 k x)) (if x.val / 64 = 1 then v (ix3 0 k x) else 0) := by
  pointwise [k0_pay27, k0_pay23, k0_pay24, k0_pay26]
  exact pick 1 x _

theorem valB2 : @Eq EReal ((k0_pay28 (k0_pay23 v) k0_pay24) (ix4 0 0 k x)) (if x.val / 64 = 2 then v (ix3 0 k x) else 0) := by
  pointwise [k0_pay28, k0_pay23, k0_pay24]
  exact pick 2 x _

theorem valB3 : @Eq EReal ((k0_pay29 (k0_pay23 v) k0_pay24) (ix4 0 0 k x)) (if x.val / 64 = 3 then v (ix3 0 k x) else 0) := by
  pointwise [k0_pay29, k0_pay23, k0_pay24]
  exact pick 3 x _

end Cert.Kernel4Ideal.Hand
-- ==== Proof.AttReads.lean ====
/-
  Loads of one head's 256x256 block out of a scratch that keeps four heads for each of two sequences.
-/
module

public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe

namespace Cert.Layer

variable {sig : RefSig} {κ : Kind} {sp : Space} {e : EltTy} {Val : EltTy → Type} [∀ e, Nonempty (Val e)]

/-- The scratch's shape, and one sequence's. -/
abbrev Heads : Shape := ⟨4, ![2, 4, 256, 256]⟩
abbrev Four : Shape := ⟨3, ![4, 256, 256]⟩

theorem there_back {s t : Shape} (h : s.numel = t.numel) (h' : t.numel = s.numel) (x : s.Idx) :
    Shape.reshapeEquiv h' (Shape.reshapeEquiv h x) = x := by
  rw [← Shape.reshapeEquiv_symm h]
  exact (Shape.reshapeEquiv h).symm_apply_apply x

/-- A load of head `n` of sequence `a` is what the stores left there. -/
theorem head_read (v : View sig κ sp Heads e) (a n : ℕ) (L : List (View.Piece Val Heads e))
    (inb : ∀ i, ![a, 0, 0, 0] i + ![1, 4, 256, 256] i ≤ Heads.size i)
    (inb' : ∀ i, ![n, 0, 0] i + ![1, 256, 256] i ≤ Four.size i) (h0 hs hw) (hR) (k x : Fin 256) :
    LoadRect.valAlong (lr := (Rect.unit (s := Four) ![n, 0, 0] ![1, 256, 256] inb').toLoadRect) hR
        (v.readCov L ((Rect.unit (s := Heads) ![a, 0, 0, 0] ![1, 4, 256, 256] inb).withinL
          ((Rect.unit (s := Four) ![n, 0, 0] ![1, 256, 256] inb').consLift ![1, 4, 256, 256] h0 hs).toLoadRect hw))
        (ix3 0 k x : (⟨3, ![1, 256, 256]⟩ : Shape).Idx)
      = View.canon L (ix4 ⟨a, by have := inb 0; simp at this; omega⟩ ⟨n, by have := inb' 0; simp at this; omega⟩ k x : Heads.Idx) := by
  rw [View.readCov_eq_canon']
  beta_reduce
  refine congrArg (View.canon L) ?_
  refine (Rect.idx_withinL _ _ _ _).trans ?_
  have hz := fun i => (Rect.unit (s := Four) ![n, 0, 0] ![1, 256, 256] inb').reshapeEquiv_consLift_succ ![1, 4, 256, 256] h0 hs
    (Shape.reshapeEquiv hR (ix3 0 k x : (⟨3, ![1, 256, 256]⟩ : Shape).Idx)) i
  have hb : Shape.reshapeEquiv ((Rect.unit (s := Four) ![n, 0, 0] ![1, 256, 256] inb').numel_consLift ![1, 4, 256, 256] h0 hs)
      (Shape.reshapeEquiv hR (ix3 0 k x : (⟨3, ![1, 256, 256]⟩ : Shape).Idx)) = (ix3 0 k x : (⟨3, ![1, 256, 256]⟩ : Shape).Idx) := by
    exact there_back hR _ _
  rw [hb] at hz
  generalize Shape.reshapeEquiv hR (ix3 0 k x : (⟨3, ![1, 256, 256]⟩ : Shape).Idx) = z at hz
  have z0 : (z 0).val = 0 := by have : (z 0).val < 1 := (z 0).isLt; omega
  have z1 : (z 1).val = 0 := hz 0
  have z2 : (z 2).val = k.val := hz 1
  have z3 : (z 3).val = x.val := hz 2
  funext i
  apply Fin.ext
  fin_cases i
  · show a + 1 * (0 + 1 * (z 0).val) = a
    omega
  · show 0 + 1 * (n + 1 * (z 1).val) = n
    omega
  · show 0 + 1 * (0 + 1 * (z 2).val) = k.val
    omega
  · show 0 + 1 * (0 + 1 * (z 3).val) = x.val
    omega

/-- Where the last store was. -/
theorem head_hit (a n : ℕ) (inb : ∀ i, ![a, n, 0, 0] i + ![1, 1, 256, 256] i ≤ Heads.size i)
    (w : (⟨4, ![1, 1, 256, 256]⟩ : Shape).Idx → Val e) (L : List (View.Piece Val Heads e)) (ha : a < 2) (hn : n < 4) (k x : Fin 256) :
    View.canon ((⟨Rect.unit (s := Heads) ![a, n, 0, 0] ![1, 1, 256, 256] inb, w⟩ : View.Piece Val Heads e) :: L) (ix4 ⟨a, ha⟩ ⟨n, hn⟩ k x : Heads.Idx)
      = w (ix4 0 0 k x) := by
  have hix : (ix4 ⟨a, ha⟩ ⟨n, hn⟩ k x : Heads.Idx) = (Rect.unit (s := Heads) ![a, n, 0, 0] ![1, 1, 256, 256] inb).emb (ix4 0 0 k x : (⟨4, ![1, 1, 256, 256]⟩ : Shape).Idx) := by
    funext i
    apply Fin.ext
    fin_cases i
    · rfl
    · rfl
    · show k.val = 0 + 1 * k.val
      omega
    · show x.val = 0 + 1 * x.val
      omega
  rw [hix]
  exact View.canon_cons_emb (Rect.unit (s := Heads) ![a, n, 0, 0] ![1, 1, 256, 256] inb) w L (ix4 0 0 k x)

/-- Where it was not. -/
theorem head_skip (a n a' n' : ℕ) (inb : ∀ i, ![a', n', 0, 0] i + ![1, 1, 256, 256] i ≤ Heads.size i)
    (w : (⟨4, ![1, 1, 256, 256]⟩ : Shape).Idx → Val e) (L : List (View.Piece Val Heads e)) (ha : a < 2) (hn : n < 4) (k x : Fin 256)
    (hne : a ≠ a' ∨ n ≠ n') :
    View.canon ((⟨Rect.unit (s := Heads) ![a', n', 0, 0] ![1, 1, 256, 256] inb, w⟩ : View.Piece Val Heads e) :: L) (ix4 ⟨a, ha⟩ ⟨n, hn⟩ k x : Heads.Idx)
      = View.canon L (ix4 ⟨a, ha⟩ ⟨n, hn⟩ k x : Heads.Idx) := by
  refine View.canon_cons_of_not_mem _ L ?_
  intro hm
  rcases hne with hne | hne
  · obtain ⟨i, hi, he⟩ := (LoadRect.mem_set _).mp hm (0 : Fin 4)
    have hi1 : i < 1 := hi
    have he' : a = a' + 1 * i := he
    omega
  · obtain ⟨i, hi, he⟩ := (LoadRect.mem_set _).mp hm (1 : Fin 4)
    have hi1 : i < 1 := hi
    have he' : n = n' + 1 * i := he
    omega

end Cert.Layer
-- ==== Proof.AttBlocks.lean ====
/-
  The attention call's blocks: what each input window holds at a grid point, at an index, of the arguments.
-/
module

public import proofs.«01_k».proof.Proof.Gen.Kernel4Ideal.Frame
public import proofs.«01_k».proof.Proof.AttSpec
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel4Ideal.Hand
open Cert.Kernel4Ideal Cert.Kernel4Ideal.Gen Cert.Layer

variable (m : (ℓ : Loc nD τ sig) → Buf (Elt Ideal) ℓ)

/-- The windows' blocks: the sinks' stays, the others move two sequences a point. -/
theorem idx : ∀ t : Fin cfg0.N, win0_0.index t = ![0] ∧ win0_1.index t = ![t.val, 0, 0] ∧ win0_2.index t = ![t.val, 0, 1]
    ∧ win0_3.index t = ![t.val, 0, 28] ∧ win0_4.index t = ![t.val, 0, 29] ∧ win0_5.index t = ![t.val, 0, 0] := by decide +kernel

/-- The sequence at place `p` of a grid point. -/
abbrev sq (t : Fin cfg0.N) (p : Fin 2) : Fin 16 := ⟨t.val * 2 + p.val, by have : t.val < 8 := t.isLt; omega⟩

theorem blk0 (c : Dev nD) (t : Fin cfg0.N) (n : Fin 16) : (iblk m c 0 t (ix1 n) : EReal) =
    m ((c : Thread nD τ).loc main_arg1) (ix1 n) := by
  blk_ext! [iblk, V, idx t]
theorem blk1 (c : Dev nD) (t : Fin cfg0.N) (p : Fin 2) (r : Fin 256) (j : Fin 1024) : (X0_1 m c t (ix3 p r j) : EReal) =
    m ((c : Thread nD τ).loc main_arg0) (ix3 (sq t p) r ⟨j.val, by omega⟩) := by
  unfold X0_1 Pipeline.Window.fill
  rw [dif_pos (moved0_1 t _)]
  blk_ext! [iblk, V, idx t]
theorem blk2 (c : Dev nD) (t : Fin cfg0.N) (p : Fin 2) (r : Fin 256) (j : Fin 1024) : (X0_2 m c t (ix3 p r j) : EReal) =
    m ((c : Thread nD τ).loc main_arg0) (ix3 (sq t p) r ⟨1024 + j.val, by omega⟩) := by
  unfold X0_2 Pipeline.Window.fill
  rw [dif_pos (moved0_2 t _)]
  blk_ext! [iblk, V, idx t]
theorem blk3 (c : Dev nD) (t : Fin cfg0.N) (p : Fin 2) (r l : Fin 256) : (iblk m c 3 t (ix3 p r l) : EReal) =
    m ((c : Thread nD τ).loc main_arg0) (ix3 (sq t p) r ⟨7168 + l.val, by omega⟩) := by
  blk_ext! [iblk, V, idx t]
theorem blk4 (c : Dev nD) (t : Fin cfg0.N) (p : Fin 2) (r l : Fin 256) : (iblk m c 4 t (ix3 p r l) : EReal) =
    m ((c : Thread nD τ).loc main_arg0) (ix3 (sq t p) r ⟨7424 + l.val, by omega⟩) := by
  blk_ext! [iblk, V, idx t]

end Cert.Kernel4Ideal.Hand
-- ==== Proof.AttOut.lean ====
/-
  What the attention call's kernel leaves: its result at an index is `Cert.Layer.attnOut` of finite arguments.
-/
module

public import proofs.«01_k».proof.Proof.Gen.Kernel4Ideal.Value
public import proofs.«01_k».proof.Proof.AttPiece
public import proofs.«01_k».proof.Proof.AttMasks
public import proofs.«01_k».proof.Proof.AttReads
public import proofs.«01_k».proof.Proof.AttBlocks
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel4Ideal.Hand
open Cert.Kernel4Ideal Cert.Kernel4Ideal.Gen Cert.Layer

variable (m : (ℓ : Loc nD τ sig) → Buf (Elt Ideal) ℓ)

section loads
variable (c : Dev nD) (t : Fin cfg0.N)

theorem sink_ld (n : Fin 16) (inb) (h) : (View.ld (iblk m c 0 t) (Rect.unit (s := S16) ![n.val] ![1] inb) (Shape.Idx.first h) : EReal) =
    m ((c : Thread nD τ).loc main_arg1) (ix1 n) := by
  refine Eq.trans ?_ (blk0 m c t n)
  refine congrArg (iblk m c 0 t) ?_
  funext i
  apply Fin.ext
  fin_cases i
  show n.val + 1 * 0 = n.val
  omega

theorem key_ld0 (k x : Fin 256) (inb) : (View.ld (iblk m c 3 t) (Rect.unit (s := S2x256x256) ![0, 0, 0] ![1, 256, 256] inb) (ix3 0 k x) : EReal) =
    m ((c : Thread nD τ).loc main_arg0) (ix3 (sq t 0) k ⟨7168 + x.val, by omega⟩) := by
  pointwise
  exact blk3 m c t 0 k x

theorem val_ld0 (k x : Fin 256) (inb) : (View.ld (iblk m c 4 t) (Rect.unit (s := S2x256x256) ![0, 0, 0] ![1, 256, 256] inb) (ix3 0 k x) : EReal) =
    m ((c : Thread nD τ).loc main_arg0) (ix3 (sq t 0) k ⟨7424 + x.val, by omega⟩) := by
  pointwise
  exact blk4 m c t 0 k x

theorem key_ld1 (k x : Fin 256) (inb) : (View.ld (iblk m c 3 t) (Rect.unit (s := S2x256x256) ![1, 0, 0] ![1, 256, 256] inb) (ix3 0 k x) : EReal) =
    m ((c : Thread nD τ).loc main_arg0) (ix3 (sq t 1) k ⟨7168 + x.val, by omega⟩) := by
  pointwise
  exact blk3 m c t 1 k x

theorem val_ld1 (k x : Fin 256) (inb) : (View.ld (iblk m c 4 t) (Rect.unit (s := S2x256x256) ![1, 0, 0] ![1, 256, 256] inb) (ix3 0 k x) : EReal) =
    m ((c : Thread nD τ).loc main_arg0) (ix3 (sq t 1) k ⟨7424 + x.val, by omega⟩) := by
  pointwise
  exact blk4 m c t 1 k x

end loads

set_option maxHeartbeats 600000 in
theorem final5 (c : Dev nD) (hp : ∀ i, IsReal ((m ((c : Thread nD τ).loc main_arg0)) i)) (hk : ∀ i, IsReal ((m ((c : Thread nD τ).loc main_arg1)) i)) :
    (dats m 0 c).arrAt 5 cfg0.N = fun i : S16x256x1024.Idx => attnOut (m ((c : Thread nD τ).loc main_arg0)) (m ((c : Thread nD τ).loc main_arg1)) (i 0) (i 1) (i 2) := by
  refine (dats m 0 c).arrAt_eq_of_covers 5 _ (by decide +kernel) fun t hf y => ?_
  blk_simp
  rw [after0_5]
  unfold outsAt0
  dsimp only
  idx_vars y
  have e : (((cfg0.win 5).blk t).view.emb (ix3 y0 y1 y2) : S16x256x1024.Idx) = ix3 (sq t y0) y1 y2 := by
    blk_ext [idx t]
  have e0 : ((View.whole main_v0).slice (win0_5.rect t)).emb (ix3 y0 y1 y2) = (ix3 (sq t y0) y1 y2 : S16x256x1024.Idx) := e
  rw [e0]
  clear e e0
  have b1 := blk1 m c t
  have b2 := blk2 m c t
  generalize X0_1 m c t = q at b1 ⊢
  generalize X0_2 m c t = ag at b2 ⊢
  frame_open
  simp (disch := decide) only [↓ View.readCov_skip, ↓ View.readCov_cons_toLoadRect, ↓ View.readCov_fill]
  frame_out
  canon_tiles x h
  all_goals
    idx_vars x
    obtain rfl : x0 = 0 := Fin.ext (by show x0.val = 0; omega)
    obtain rfl : y1 = x1 := Fin.ext h1
    obtain rfl : y2 = x2 := Fin.ext h2
  case piece0 =>
    obtain rfl : y0 = 1 := Fin.ext h0
    refine (congrFun (second_piece ..) _).trans ?_
    refine piece_at _ _ _ _ _ _ _ _ _ _ _ _ _ _ _ _ _ _ _ _ _ _ _ _ _ _ (m ((c : Thread nD τ).loc main_arg0)) (m ((c : Thread nD τ).loc main_arg1)) (sq t 1) hp hk y1 y2 (sink_ld m c t 0 _ _) (sink_ld m c t 1 _ _) (sink_ld m c t 2 _ _) (sink_ld m c t 3 _ _) (sink_ld m c t 4 _ _) (sink_ld m c t 5 _ _) (sink_ld m c t 6 _ _) (sink_ld m c t 7 _ _) (sink_ld m c t 8 _ _) (sink_ld m c t 9 _ _) (sink_ld m c t 10 _ _) (sink_ld m c t 11 _ _) (sink_ld m c t 12 _ _) (sink_ld m c t 13 _ _) (sink_ld m c t 14 _ _) (sink_ld m c t 15 _ _)
      ?_ ?_ ?_ ?_ ?_ ?_ ?_ ?_ ?_ ?_
    · intro r x
      pointwise
      exact b1 1 r x
    · intro r x
      pointwise
      exact b2 1 r x
    · intro k x
      refine (head_read _ 1 0 _ _ _ (by decide) (by decide) _ _ k x).trans ?_
      refine (head_hit 1 0 _ _ _ _ _ k x).trans ?_
      exact (keyB0 _ k x).trans (by rw [key_ld1])
    · intro k x
      refine (head_read _ 1 1 _ _ _ (by decide) (by decide) _ _ k x).trans ?_
      refine (head_hit 1 1 _ _ _ _ _ k x).trans ?_
      exact (keyB1 _ k x).trans (by rw [key_ld1])
    · intro k x
      refine (head_read _ 1 2 _ _ _ (by decide) (by decide) _ _ k x).trans ?_
      refine (head_hit 1 2 _ _ _ _ _ k x).trans ?_
      exact (keyB2 _ k x).trans (by rw [key_ld1])
    · intro k x
      refine (head_read _ 1 3 _ _ _ (by decide) (by decide) _ _ k x).trans ?_
      refine (head_hit 1 3 _ _ _ _ _ k x).trans ?_
      exact (keyB3 _ k x).trans (by rw [key_ld1])
    · intro k x
      refine (head_read _ 1 0 _ _ _ (by decide) (by decide) _ _ k x).trans ?_
      refine (head_hit 1 0 _ _ _ _ _ k x).trans ?_
      exact (valB0 _ k x).trans (by rw [val_ld1])
    · intro k x
      refine (head_read _ 1 1 _ _ _ (by decide) (by decide) _ _ k x).trans ?_
      refine (head_hit 1 1 _ _ _ _ _ k x).trans ?_
      exact (valB1 _ k x).trans (by rw [val_ld1])
    · intro k x
      refine (head_read _ 1 2 _ _ _ (by decide) (by decide) _ _ k x).trans ?_
      refine (head_hit 1 2 _ _ _ _ _ k x).trans ?_
      exact (valB2 _ k x).trans (by rw [val_ld1])
    · intro k x
      refine (head_read _ 1 3 _ _ _ (by decide) (by decide) _ _ k x).trans ?_
      refine (head_hit 1 3 _ _ _ _ _ k x).trans ?_
      exact (valB3 _ k x).trans (by rw [val_ld1])
  case piece1 =>
    obtain rfl : y0 = 0 := Fin.ext h0
    refine (congrFun (first_piece ..) _).trans ?_
    refine piece_at _ _ _ _ _ _ _ _ _ _ _ _ _ _ _ _ _ _ _ _ _ _ _ _ _ _ (m ((c : Thread nD τ).loc main_arg0)) (m ((c : Thread nD τ).loc main_arg1)) (sq t 0) hp hk y1 y2 (sink_ld m c t 0 _ _) (sink_ld m c t 1 _ _) (sink_ld m c t 2 _ _) (sink_ld m c t 3 _ _) (sink_ld m c t 4 _ _) (sink_ld m c t 5 _ _) (sink_ld m c t 6 _ _) (sink_ld m c t 7 _ _) (sink_ld m c t 8 _ _) (sink_ld m c t 9 _ _) (sink_ld m c t 10 _ _) (sink_ld m c t 11 _ _) (sink_ld m c t 12 _ _) (sink_ld m c t 13 _ _) (sink_ld m c t 14 _ _) (sink_ld m c t 15 _ _)
      ?_ ?_ ?_ ?_ ?_ ?_ ?_ ?_ ?_ ?_
    · intro r x
      pointwise
      exact b1 0 r x
    · intro r x
      pointwise
      exact b2 0 r x
    · intro k x
      refine (head_read _ 0 0 _ _ _ (by decide) (by decide) _ _ k x).trans ?_
      refine (head_hit 0 0 _ _ _ _ _ k x).trans ?_
      exact (keyA0 _ k x).trans (by rw [key_ld0])
    · intro k x
      refine (head_read _ 0 1 _ _ _ (by decide) (by decide) _ _ k x).trans ?_
      refine (head_hit 0 1 _ _ _ _ _ k x).trans ?_
      exact (keyA1 _ k x).trans (by rw [key_ld0])
    · intro k x
      refine (head_read _ 0 2 _ _ _ (by decide) (by decide) _ _ k x).trans ?_
      refine (head_hit 0 2 _ _ _ _ _ k x).trans ?_
      exact (keyA2 _ k x).trans (by rw [key_ld0])
    · intro k x
      refine (head_read _ 0 3 _ _ _ (by decide) (by decide) _ _ k x).trans ?_
      refine (head_hit 0 3 _ _ _ _ _ k x).trans ?_
      exact (keyA3 _ k x).trans (by rw [key_ld0])
    · intro k x
      refine (head_read _ 0 0 _ _ _ (by decide) (by decide) _ _ k x).trans ?_
      refine (head_hit 0 0 _ _ _ _ _ k x).trans ?_
      exact (valA0 _ k x).trans (by rw [val_ld0])
    · intro k x
      refine (head_read _ 0 1 _ _ _ (by decide) (by decide) _ _ k x).trans ?_
      refine (head_hit 0 1 _ _ _ _ _ k x).trans ?_
      exact (valA1 _ k x).trans (by rw [val_ld0])
    · intro k x
      refine (head_read _ 0 2 _ _ _ (by decide) (by decide) _ _ k x).trans ?_
      refine (head_hit 0 2 _ _ _ _ _ k x).trans ?_
      exact (valA2 _ k x).trans (by rw [val_ld0])
    · intro k x
      refine (head_read _ 0 3 _ _ _ (by decide) (by decide) _ _ k x).trans ?_
      refine (head_hit 0 3 _ _ _ _ _ k x).trans ?_
      exact (valA3 _ k x).trans (by rw [val_ld0])

end Cert.Kernel4Ideal.Hand
-- ==== Proof.AttRef.lean ====
/-
  The attention call's reference: its result at an index is `Cert.Layer.attnOut` of the arguments.
-/
module

public import proofs.«01_k».proof.Proof.Gen.Reference4Ideal.Run
public import proofs.«01_k».proof.Proof.AttSpec
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Reference4Ideal.Hand
open Cert.Reference4Ideal Cert.Reference4Ideal.Gen Cert.Layer

/-- The greatest along the last axis. -/
theorem greatest {n0 n1 n2 n3 n4 : ℕ} {u : Shape} (v : FVec Ideal ⟨5, ![n0, n1, n2, n3, n4]⟩ .f32) (z : FVec Ideal u .f32)
    (hr : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce FloatOps.maximumf v z hr hu (ix4 a b c d) = Finset.univ.fold max (z (Shape.Idx.first hu)) fun x => v (ix5 a b c d x) := by
  simp only [pointwise]

section stages
variable (pm : FVec Ideal S16x256x7680 .f32) (sk : FVec Ideal S16 .f32)

/-- The scores, by sequence, head, group, query and key. -/
def scores : FVec Ideal S16x4x4x256x256 .f32 :=
  mulf (transpose S16x4x4x256x256 [0, 1, 4, 3, 2]
      (Host.dotGeneral dot_S16x256x4x64_S16x256x4x4x64_S16x4x256x256x4_3_4_1_12_02_03 none
        (shapeCast S16x256x4x64 (extractStridedSlice S16x256x256 ![0, 0, 7168] pm slices_S16x256x7680_S16x256x256_0_0_7168) shapeCasts_S16x256x256_S16x256x4x64)
        (shapeCast S16x256x4x4x64 (extractStridedSlice S16x256x1024 ![0, 0, 0] pm slices_S16x256x7680_S16x256x1024_0_0_0) shapeCasts_S16x256x1024_S16x256x4x4x64))
      transposes_S16x4x256x256x4_S16x4x4x256x256_0_1_4_3_2)
    (broadcastInDim S16x4x4x256x256 ![] bcast_S_S16x4x4x256x256 (constant S_ .f32 0x3E000000#32))

/-- The sinks, by head and group. -/
def sinks : FVec Ideal S1x4x4x1 .f32 := broadcastInDim S1x4x4x1 ![1, 2] bcast_S4x4_S1x4x4x1_1_2 (shapeCast S4x4 sk shapeCasts_S16_S4x4)

variable (s : FVec Ideal S16x4x4x256x256 .f32) (k : FVec Ideal S1x4x4x1 .f32)

def tops : FVec Ideal S16x4x4x256 .f32 :=
  maximumf (Host.reduce FloatOps.maximumf s (constant S_ .f32 0xFF800000#32) reducesTo_S16x4x4x256x256_S16x4x4x256_d4 h_S_)
    (broadcastInDim S16x4x4x256 ![0, 1, 2, 3] bcast_S1x4x4x1_S16x4x4x256_0_1_2_3 k)

/-- The weights before the division, of the scores and their tops. -/
def weights (t : FVec Ideal S16x4x4x256 .f32) : FVec Ideal S16x4x4x256x256 .f32 :=
  Host.exp (subf s (broadcastInDim S16x4x4x256x256 ![0, 1, 2, 3, 4] bcast_S16x4x4x256x1_S16x4x4x256x256_0_1_2_3_4
    (broadcastInDim S16x4x4x256x1 ![0, 1, 2, 3] bcast_S16x4x4x256_S16x4x4x256x1_0_1_2_3 t)))

def totals (w : FVec Ideal S16x4x4x256x256 .f32) (t : FVec Ideal S16x4x4x256 .f32) : FVec Ideal S16x4x4x256 .f32 :=
  addf (Host.reduceAdd w (constant S_ .f32 0x00000000#32) reducesTo_S16x4x4x256x256_S16x4x4x256_d4 h_S_)
    (Host.exp (subf (broadcastInDim S16x4x4x256 ![0, 1, 2, 3] bcast_S1x4x4x1_S16x4x4x256_0_1_2_3 k) t))

/-- The values' means, by sequence, query, group, head and lane. -/
def means (w : FVec Ideal S16x4x4x256x256 .f32) (d : FVec Ideal S16x4x4x256 .f32) : FVec Ideal S16x256x4x4x64 .f32 :=
  transpose S16x256x4x4x64 [0, 4, 3, 1, 2]
    (Host.dotGeneral dot_S16x256x4x64_S16x4x4x256x256_S16x4x64x4x256_1_4_3_23_02_01 none
      (shapeCast S16x256x4x64 (extractStridedSlice S16x256x256 ![0, 0, 7424] pm slices_S16x256x7680_S16x256x256_0_0_7424) shapeCasts_S16x256x256_S16x256x4x64)
      (Host.divf w (broadcastInDim S16x4x4x256x256 ![0, 1, 2, 3, 4] bcast_S16x4x4x256x1_S16x4x4x256x256_0_1_2_3_4
        (broadcastInDim S16x4x4x256x1 ![0, 1, 2, 3] bcast_S16x4x4x256_S16x4x4x256x1_0_1_2_3 d))))
    transposes_S16x4x64x4x256_S16x256x4x4x64_0_4_3_1_2

def gatedBy (o : FVec Ideal S16x256x4x4x64 .f32) : FVec Ideal S16x256x1024 .f32 :=
  mulf (shapeCast S16x256x1024 o shapeCasts_S16x256x4x4x64_S16x256x1024)
    (mulf (extractStridedSlice S16x256x1024 ![0, 0, 1024] pm slices_S16x256x7680_S16x256x1024_0_0_1024)
      (Host.divf (broadcastInDim S16x256x1024 ![] bcast_S_S16x256x1024 (constant S_ .f32 0x3F800000#32))
        (addf (broadcastInDim S16x256x1024 ![] bcast_S_S16x256x1024 (constant S_ .f32 0x3F800000#32))
          (Host.exp (Host.negf (extractStridedSlice S16x256x1024 ![0, 0, 1024] pm slices_S16x256x7680_S16x256x1024_0_0_1024))))))

theorem scores_at (b : Fin 16) (h g : Fin 4) (i k : Fin 256) : (scores pm (ix5 b h g i k) : EReal) = rowScores pm b i g h k := by
  unfold scores
  clean_types
  pointwise
  unfold rowScores attScore
  refine congrArg (· * _) (Finset.sum_congr rfl fun x _ => ?_)
  congr 3
  · exact Fin.ext (by show 7168 + (h.val * 64 + x.val) = 7168 + 64 * h.val + x.val; omega)
  · exact Fin.ext (by show g.val * 256 + h.val * 64 + x.val = 256 * g.val + 64 * h.val + x.val; omega)

theorem sinks_at (h g : Fin 4) : (sinks sk (ix4 0 h g 0) : EReal) = sk (ix1 ⟨4 * h.val + g.val, by omega⟩) := by
  unfold sinks
  clean_types
  pointwise
  exact congrArg (fun x => sk (ix1 x)) (Fin.ext (by show h.val * 4 + g.val = 4 * h.val + g.val; omega))

theorem sink_spread (b : Fin 16) (h g : Fin 4) (i : Fin 256) :
    broadcastInDim S16x4x4x256 ![0, 1, 2, 3] bcast_S1x4x4x1_S16x4x4x256_0_1_2_3 k (ix4 b h g i) = k (ix4 0 h g 0) := by
  clean_types
  pointwise

theorem tops_at (b : Fin 16) (h g : Fin 4) (i : Fin 256) : (tops s k (ix4 b h g i) : EReal) = peak (fun x => s (ix5 b h g i x)) (k (ix4 0 h g 0)) := by
  unfold tops peak
  rw [maximumf_apply, greatest, sink_spread]
  exact congrArg (fun e => max (Finset.univ.fold max e fun x => s (ix5 b h g i x)) (k (ix4 0 h g 0))) neg_inf_word

theorem weights_at (t : FVec Ideal S16x4x4x256 .f32) (b : Fin 16) (h g : Fin 4) (i x : Fin 256) :
    (weights s t (ix5 b h g i x) : EReal) = Ideal.exp (s (ix5 b h g i x) - t (ix4 b h g i)) := by
  unfold weights
  clean_types
  pointwise

theorem totals_at (w : FVec Ideal S16x4x4x256x256 .f32) (t : FVec Ideal S16x4x4x256 .f32) (b : Fin 16) (h g : Fin 4) (i : Fin 256) :
    (totals k w t (ix4 b h g i) : EReal) = (∑ x, w (ix5 b h g i x)) + Ideal.exp (k (ix4 0 h g 0) - t (ix4 b h g i)) := by
  unfold totals
  clean_types
  pointwise

theorem means_at (w : FVec Ideal S16x4x4x256x256 .f32) (d : FVec Ideal S16x4x4x256 .f32) (b : Fin 16) (i : Fin 256) (g h : Fin 4) (l : Fin 64) :
    (means pm w d (ix5 b i g h l) : EReal) =
      ∑ x : Fin 256, pm (ix3 b x ⟨7424 + 64 * h.val + l.val, by omega⟩) * Ideal.div (w (ix5 b h g i x)) (d (ix4 b h g i)) := by
  unfold means
  clean_types
  pointwise
  refine Finset.sum_congr rfl fun x _ => congrArg (fun y => pm (ix3 b x y) * _) (Fin.ext ?_)
  show 7424 + (h.val * 64 + l.val) = 7424 + 64 * h.val + l.val
  omega

theorem gatedBy_at (o : FVec Ideal S16x256x4x4x64 .f32) (b : Fin 16) (i : Fin 256) (j : Fin 1024) :
    (gatedBy pm o (ix3 b i j) : EReal) = o (ix5 b i ⟨j.val / 256, by omega⟩ ⟨j.val / 64 % 4, by omega⟩ ⟨j.val % 64, by omega⟩)
      * (pm (ix3 b i ⟨1024 + j.val, by omega⟩) * Ideal.logistic (pm (ix3 b i ⟨1024 + j.val, by omega⟩))) := by
  unfold gatedBy
  clean_types
  pointwise
  rfl

end stages

variable (m : (ℓ : Loc nD τ sig) → Buf (Elt Ideal) ℓ)

theorem ref_eq (c : Dev nD) (b : Fin 16) (i : Fin 256) (j : Fin 1024) : (Value.res_main_v38 (F := Ideal) m c (ix3 b i j) : EReal) =
    attnOut (m ((c.tc : Thread nD τ).loc main_arg0)) (m ((c.tc : Thread nD τ).loc main_arg1)) b i j := by
  have e : Value.res_main_v38 (F := Ideal) m c =
      (let pm := m ((c.tc : Thread nD τ).loc main_arg0)
       let s := scores pm
       let k := sinks (m ((c.tc : Thread nD τ).loc main_arg1))
       let w := weights s (tops s k)
       gatedBy pm (means pm w (totals k w (tops s k)))) := rfl
  rw [e]
  dsimp only
  rw [gatedBy_at, means_at]
  simp only [totals_at, weights_at, tops_at, scores_at, sinks_at]
  unfold attnOut attnAt attend total weight
  have ej : (⟨1024 + 256 * (j.val / 256) + 64 * (j.val / 64 % 4) + j.val % 64, by omega⟩ : Fin 7680) = ⟨1024 + j.val, by omega⟩ :=
    Fin.ext (by show 1024 + 256 * (j.val / 256) + 64 * (j.val / 64 % 4) + j.val % 64 = 1024 + j.val; omega)
  simp only [ej]

end Cert.Reference4Ideal.Hand
-- ==== Proof.Attention.lean ====
/-
  The attention call's claims.
-/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import proofs.«01_k».proof.Proof.AttOut
public import proofs.«01_k».proof.Proof.AttRef
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem

namespace Cert.Proof

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The precondition's side conditions. -/
theorem finite_facts : Cert.Pre_finite.Facts := ⟨by decide, by decide⟩

theorem frame_ideal4_pre : Cert.quiescent_Kernel4Ideal_pre_finite (hPre_finite := finite_facts) := fun m ρ _ => Cert.Kernel4Ideal.Gen.frame m ρ

theorem frame_reference4_pre : Cert.quiescent_Reference4Ideal_pre_finite (hPre_finite := finite_facts) := fun m ρ _ => frame_reference4 m ρ trivial

theorem inf_word : Ideal.ofBits .f32 0x7F800000#32 = ⊤ := by
  simp [Ideal.ofBits, Ideal.ieee]

/-- What the precondition's comparison says of one entry. -/
theorem real_of_below (x : EReal) (h : Ideal.cmp .olt (max x (-x)) (Ideal.ofBits .f32 0x7F800000#32) = 1#1) : Cert.Layer.IsReal x := by
  rw [inf_word] at h
  induction x using EReal.rec with
  | bot => simp [Ideal.cmp] at h
  | coe r => exact ⟨r, rfl⟩
  | top => simp [Ideal.cmp] at h

/-- Both programs leave the gated softmax means of the same finite arguments. -/
theorem algebraic4 : Cert.algebraic_Kernel4Ideal_Reference4Ideal_pre_finite (hPre_finite := finite_facts) := by
  intro m g m' g' hf hargs
  have hp : ∀ (c : Dev Cert.Kernel4Ideal.nD) i, Cert.Layer.IsReal (m ((c.tc : Thread Cert.Kernel4Ideal.nD Cert.Kernel4Ideal.τ).loc Cert.Kernel4Ideal.main_arg0) i) := fun c i =>
    real_of_below _ (congrFun (hf c).1 i)
  have hk : ∀ (c : Dev Cert.Kernel4Ideal.nD) i, Cert.Layer.IsReal (m ((c.tc : Thread Cert.Kernel4Ideal.nD Cert.Kernel4Ideal.τ).loc Cert.Kernel4Ideal.main_arg1) i) := fun c i =>
    real_of_below _ (congrFun (hf c).2 i)
  refine ⟨fun c => fun i : Cert.Kernel4Ideal.S16x256x1024.Idx => Cert.Layer.attnOut (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (i 0) (i 1) (i 2), ?_, ?_⟩
  · refine (θ_run _ _ _).mono (fun r h c => ?_) (Cert.Kernel4Ideal.Value.run_blocks m g)
    exact ⟨(h c).1.trans (Cert.Kernel4Ideal.Hand.final5 m c (hp c) (hk c)), (h c).2⟩
  · refine (θ_run _ _ _).mono (fun r h c => ⟨(h c).1.trans ?_, (h c).2⟩) (Cert.Reference4Ideal.Value.run (F := Ideal) m' g')
    obtain ⟨e0, e1⟩ := hargs c
    funext i
    idx_vars i
    refine (Cert.Reference4Ideal.Hand.ref_eq m' c i0 i1 i2).trans ?_
    rw [e0, e1]

end Cert.Proof

end
-- ==== Proof.lean ====
/-
  The certificate: the calls' frames, preservations and value claims, put together.
-/
module

public import proofs.«01_k».proof.Defs
public import proofs.«01_k».proof.Proof.Gen.KernelIdeal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.ReferenceIdeal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Kernel.Frame
public import proofs.«01_k».proof.Proof.Gen.Kernel3.Frame
public import proofs.«01_k».proof.Proof.Gen.Kernel4.Frame
public import proofs.«01_k».proof.Proof.Gen.Kernel5.Frame
public import proofs.«01_k».proof.Proof.InProj
public import proofs.«01_k».proof.Proof.Merge
public import proofs.«01_k».proof.Proof.Retention
public import proofs.«01_k».proof.Proof.SampleMerge
public import proofs.«01_k».proof.Proof.Attention
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, finite_facts,
  frame_kernel, frame_ideal, frame_reference, frame_kernel2, frame_ideal2, frame_reference2,
  frame_kernel3, frame_ideal3, frame_reference3,
  frame_kernel4, frame_ideal4, frame_ideal4_pre, frame_reference4, frame_reference4_pre, frame_kernel5, frame_ideal5, frame_reference5,
  trivial, algebraic1, trivial, algebraic2, trivial, algebraic3, trivial, algebraic4, trivial, algebraic5⟩

end Cert.Proof

end
